-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_finite_steps [hPre_finite_steps : Cert.Pre_finite_steps.Facts] (m : (ℓ : Loc Cert.StateIdeal.nD Cert.StateIdeal.τ Cert.StateIdeal.sig) → Buf (Elt Ideal) ℓ) : Prop :=
  ∀ c : Dev Cert.StateIdeal.nD,
    (Cert.Pre_finite_steps.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2)) (m ((c.tc : Thread Cert.StateIdeal.nD Cert.StateIdeal.τ).loc Cert.StateIdeal.main_arg3)) (m ((c.tc : Thread Cert.StateIdeal.nD Cert.StateIdeal.τ).loc Cert.StateIdeal.main_arg4)) (m ((c.tc : Thread Cert.StateIdeal.nD Cert.StateIdeal.τ).loc Cert.StateIdeal.main_arg5)) (m ((c.tc : Thread Cert.StateIdeal.nD Cert.StateIdeal.τ).loc Cert.StateIdeal.main_arg6)) (m ((c.tc : Thread Cert.StateIdeal.nD Cert.StateIdeal.τ).loc Cert.StateIdeal.main_arg7))).1 = (fun _ => 1#1)
    ∧ (Cert.Pre_finite_steps.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2)) (m ((c.tc : Thread Cert.StateIdeal.nD Cert.StateIdeal.τ).loc Cert.StateIdeal.main_arg3)) (m ((c.tc : Thread Cert.StateIdeal.nD Cert.StateIdeal.τ).loc Cert.StateIdeal.main_arg4)) (m ((c.tc : Thread Cert.StateIdeal.nD Cert.StateIdeal.τ).loc Cert.StateIdeal.main_arg5)) (m ((c.tc : Thread Cert.StateIdeal.nD Cert.StateIdeal.τ).loc Cert.StateIdeal.main_arg6)) (m ((c.tc : Thread Cert.StateIdeal.nD Cert.StateIdeal.τ).loc Cert.StateIdeal.main_arg7))).2 = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_finite_steps [hPre_finite_steps : Cert.Pre_finite_steps.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_finite_steps.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2)) (m ((c.tc : Thread Cert.StateRefIdeal.nD Cert.StateRefIdeal.τ).loc Cert.StateRefIdeal.main_arg3)) (m ((c.tc : Thread Cert.StateRefIdeal.nD Cert.StateRefIdeal.τ).loc Cert.StateRefIdeal.main_arg4)) (m ((c.tc : Thread Cert.StateRefIdeal.nD Cert.StateRefIdeal.τ).loc Cert.StateRefIdeal.main_arg5)) (m ((c.tc : Thread Cert.StateRefIdeal.nD Cert.StateRefIdeal.τ).loc Cert.StateRefIdeal.main_arg6)) (m ((c.tc : Thread Cert.StateRefIdeal.nD Cert.StateRefIdeal.τ).loc Cert.StateRefIdeal.main_arg7))).1 = (fun _ => 1#1)
    ∧ (Cert.Pre_finite_steps.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2)) (m ((c.tc : Thread Cert.StateRefIdeal.nD Cert.StateRefIdeal.τ).loc Cert.StateRefIdeal.main_arg3)) (m ((c.tc : Thread Cert.StateRefIdeal.nD Cert.StateRefIdeal.τ).loc Cert.StateRefIdeal.main_arg4)) (m ((c.tc : Thread Cert.StateRefIdeal.nD Cert.StateRefIdeal.τ).loc Cert.StateRefIdeal.main_arg5)) (m ((c.tc : Thread Cert.StateRefIdeal.nD Cert.StateRefIdeal.τ).loc Cert.StateRefIdeal.main_arg6)) (m ((c.tc : Thread Cert.StateRefIdeal.nD Cert.StateRefIdeal.τ).loc Cert.StateRefIdeal.main_arg7))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6)
      ∧ r.2.mem ((c.tc : Thread Cert.State.nD Cert.State.τ).loc Cert.State.main_arg7) = m ((c.tc : Thread Cert.State.nD Cert.State.τ).loc Cert.State.main_arg7))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7))
      ∧ r.2.sem = fun _ => 0)

def quiescent_StateIdeal_pre_finite_steps [hStateIdeal : Cert.StateIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg), Pre_StateIdeal_finite_steps m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7))
      ∧ r.2.sem = fun _ => 0)

def quiescent_StateRefIdeal_pre_finite_steps [hStateRefIdeal : Cert.StateRefIdeal.Facts] [hPre_finite_steps : Cert.Pre_finite_steps.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_finite_steps m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v4)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v4) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v24) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6))

def preserves_State_StateIdeal : Prop :=
  True

def algebraic_StateIdeal_StateRefIdeal_pre_finite_steps [hStateIdeal : Cert.StateIdeal.Facts] [hStateRefIdeal : Cert.StateRefIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_finite_steps m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)
      ∧ m' ((c.tc : Thread Cert.StateRefIdeal.nD Cert.StateRefIdeal.τ).loc Cert.StateRefIdeal.main_arg4) = m ((c.tc : Thread Cert.StateIdeal.nD Cert.StateIdeal.τ).loc Cert.StateIdeal.main_arg4)
      ∧ m' ((c.tc : Thread Cert.StateRefIdeal.nD Cert.StateRefIdeal.τ).loc Cert.StateRefIdeal.main_arg5) = m ((c.tc : Thread Cert.StateIdeal.nD Cert.StateIdeal.τ).loc Cert.StateIdeal.main_arg5)
      ∧ m' ((c.tc : Thread Cert.StateRefIdeal.nD Cert.StateRefIdeal.τ).loc Cert.StateRefIdeal.main_arg6) = m ((c.tc : Thread Cert.StateIdeal.nD Cert.StateIdeal.τ).loc Cert.StateIdeal.main_arg6)
      ∧ m' ((c.tc : Thread Cert.StateRefIdeal.nD Cert.StateRefIdeal.τ).loc Cert.StateRefIdeal.main_arg7) = m ((c.tc : Thread Cert.StateIdeal.nD Cert.StateIdeal.τ).loc Cert.StateIdeal.main_arg7)) →
    ∃ (v0 : (c : Dev Cert.StateIdeal.nD) → Buf (Elt Ideal) ((c.tc : Thread Cert.StateIdeal.nD Cert.StateIdeal.τ).loc Cert.StateIdeal.main_v27_1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v27_1) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
          ∧ r.2.mem ((c.tc : Thread Cert.StateIdeal.nD Cert.StateIdeal.τ).loc Cert.StateIdeal.main_arg7) = m ((c.tc : Thread Cert.StateIdeal.nD Cert.StateIdeal.τ).loc Cert.StateIdeal.main_arg7))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v30) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3)
          ∧ r.2.mem ((c.tc : Thread Cert.StateRefIdeal.nD Cert.StateRefIdeal.τ).loc Cert.StateRefIdeal.main_arg4) = m' ((c.tc : Thread Cert.StateRefIdeal.nD Cert.StateRefIdeal.τ).loc Cert.StateRefIdeal.main_arg4)
          ∧ r.2.mem ((c.tc : Thread Cert.StateRefIdeal.nD Cert.StateRefIdeal.τ).loc Cert.StateRefIdeal.main_arg5) = m' ((c.tc : Thread Cert.StateRefIdeal.nD Cert.StateRefIdeal.τ).loc Cert.StateRefIdeal.main_arg5)
          ∧ r.2.mem ((c.tc : Thread Cert.StateRefIdeal.nD Cert.StateRefIdeal.τ).loc Cert.StateRefIdeal.main_arg6) = m' ((c.tc : Thread Cert.StateRefIdeal.nD Cert.StateRefIdeal.τ).loc Cert.StateRefIdeal.main_arg6)
          ∧ r.2.mem ((c.tc : Thread Cert.StateRefIdeal.nD Cert.StateRefIdeal.τ).loc Cert.StateRefIdeal.main_arg7) = m' ((c.tc : Thread Cert.StateRefIdeal.nD Cert.StateRefIdeal.τ).loc Cert.StateRefIdeal.main_arg7))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnSample : Cert.FfnSample.Facts) (hFfnSampleIdeal : Cert.FfnSampleIdeal.Facts) (hFfnSampleRefIdeal : Cert.FfnSampleRefIdeal.Facts) (hState : Cert.State.Facts) (hStateIdeal : Cert.StateIdeal.Facts) (hStateRefIdeal : Cert.StateRefIdeal.Facts) (hPre_finite_scores : Cert.Pre_finite_scores.Facts) (hPre_finite_steps : Cert.Pre_finite_steps.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_State (hState := hState)
    ∧ quiescent_StateIdeal (hStateIdeal := hStateIdeal)
    ∧ quiescent_StateIdeal_pre_finite_steps (hStateIdeal := hStateIdeal) (hPre_finite_steps := hPre_finite_steps)
    ∧ quiescent_StateRefIdeal (hStateRefIdeal := hStateRefIdeal)
    ∧ quiescent_StateRefIdeal_pre_finite_steps (hStateRefIdeal := hStateRefIdeal) (hPre_finite_steps := hPre_finite_steps)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_State_StateIdeal
    ∧ algebraic_StateIdeal_StateRefIdeal_pre_finite_steps (hStateIdeal := hStateIdeal) (hStateRefIdeal := hStateRefIdeal) (hPre_finite_steps := hPre_finite_steps)
-- ==== Pre_finite_scores.lean ====
abbrev S4x8192x512 : Shape := ⟨3, ![4, 8192, 512]⟩
abbrev S4x8192x128 : Shape := ⟨3, ![4, 8192, 128]⟩
abbrev S8 : Shape := ⟨1, ![8]⟩
abbrev S_ : Shape := ⟨0, ![]⟩

class Facts : Prop where
  bcast_S_S4x8192x512 : S_.BroadcastsInDim S4x8192x512 (![] : Fin 0 → Fin S4x8192x512.rank)
  bcast_S_S4x8192x128 : S_.BroadcastsInDim S4x8192x128 (![] : Fin 0 → Fin S4x8192x128.rank)
  bcast_S_S8 : S_.BroadcastsInDim S8 (![] : Fin 0 → Fin S8.rank)

variable [Facts]

def fn {F : FTy → Type} [FloatOps F] (main_arg0 : FVec F S4x8192x512 .f32) (main_arg1 : FVec F S4x8192x128 .f32) (main_arg2 : FVec F S4x8192x128 .f32) (main_arg3 : FVec F S8 .f32) : IVec S4x8192x512 1 × IVec S4x8192x128 1 × IVec S8 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x128 .f32 := Host.absf main_arg1
  let main_cst_0 : FVec F S_ .f32 := constant S_ .f32 0x7F800000#32
  let main_v4 : FVec F S4x8192x128 .f32 := broadcastInDim S4x8192x128 ![] bcast_S_S4x8192x128 main_cst_0
  let main_v5 : IVec S4x8192x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_finite_steps.lean ====
abbrev S128x4x1024 : Shape := ⟨3, ![128, 4, 1024]⟩
abbrev S128x4x512 : Shape := ⟨3, ![128, 4, 512]⟩
abbrev S128x4x128 : Shape := ⟨3, ![128, 4, 128]⟩
abbrev S128x16x64x128 : Shape := ⟨4, ![128, 16, 64, 128]⟩
abbrev S16 : Shape := ⟨1, ![16]⟩
abbrev S1024 : Shape := ⟨1, ![1024]⟩
abbrev S128x4x16 : Shape := ⟨3, ![128, 4, 16]⟩
abbrev S_ : Shape := ⟨0, ![]⟩

class Facts : Prop where
  slices_S128x4x128_S128x4x16_0_0_0 : S128x4x128.Slices ![0, 0, 0] S128x4x16
  bcast_S_S128x4x16 : S_.BroadcastsInDim S128x4x16 (![] : Fin 0 → Fin S128x4x16.rank)
  bcast_S_S16 : S_.BroadcastsInDim S16 (![] : Fin 0 → Fin S16.rank)

variable [Facts]

def fn {F : FTy → Type} [FloatOps F] (main_arg0 : FVec F S128x4x1024 .f32) (main_arg1 : FVec F S128x4x512 .bf16) (main_arg2 : FVec F S128x4x128 .f32) (main_arg3 : FVec F S128x4x1024 .f32) (main_arg4 : FVec F S128x16x64x128 .f32) (main_arg5 : FVec F S16 .f32) (main_arg6 : FVec F S16 .f32) (main_arg7 : FVec F S1024 .f32) : IVec S128x4x16 1 × IVec S16 1 :=
  let main_v0 : FVec F S128x4x16 .f32 := (extractStridedSlice S128x4x16 ![0, 0, 0] · slices_S128x4x128_S128x4x16_0_0_0) main_arg2
  let main_v1 : FVec F S128x4x16 .f32 := Host.absf main_v0
  let main_cst : FVec F S_ .f32 := constant S_ .f32 0x7F800000#32
  let main_v2 : FVec F S128x4x16 .f32 := broadcastInDim S128x4x16 ![] bcast_S_S128x4x16 main_cst
  let main_v3 : IVec S128x4x16 1 := cmpf .olt main_v1 main_v2
  let main_cst_0 : FVec F S_ .f32 := constant S_ .f32 0x7F800000#32
  let main_v4 : FVec F S16 .f32 := broadcastInDim S16 ![] bcast_S_S16 main_cst_0
  let main_v5 : IVec S16 1 := cmpf .olt main_arg5 main_v4
  (main_v3, main_v5)
-- ==== Attn.lean ====
abbrev S4x8192x512 : Shape := ⟨3, ![4, 8192, 512]⟩
abbrev S4x8192x128 : Shape := ⟨3, ![4, 8192, 128]⟩
abbrev S8 : Shape := ⟨1, ![8]⟩
abbrev S_ : Shape := ⟨0, ![]⟩
abbrev S4x8192x64 : Shape := ⟨3, ![4, 8192, 64]⟩
abbrev S4x8192x256 : Shape := ⟨3, ![4, 8192, 256]⟩
abbrev S1x512x512 : Shape := ⟨3, ![1, 512, 512]⟩
abbrev S1x512x256 : Shape := ⟨3, ![1, 512, 256]⟩
abbrev S1x128x256 : Shape := ⟨3, ![1, 128, 256]⟩
abbrev S128x128 : Shape := ⟨2, ![128, 128]⟩
abbrev S128x256 : Shape := ⟨2, ![128, 256]⟩
abbrev S256x256 : Shape := ⟨2, ![256, 256]⟩
abbrev S1x128x128 : Shape := ⟨3, ![1, 128, 128]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 19
  | .vmem => 12
  | .smem => 1
  | _ => 0

abbrev bufTy : (tb : Table) → Fin (tcTables nBuf tb) → BufTy
  | .hbm, ⟨0, _⟩ => ⟨S4x8192x512, .f32⟩
  | .hbm, ⟨1, _⟩ => ⟨S4x8192x128, .f32⟩
  | .hbm, ⟨2, _⟩ => ⟨S4x8192x128, .f32⟩
  | .hbm, ⟨3, _⟩ => ⟨S8, .f32⟩
  | .hbm, ⟨4, _⟩ => ⟨S_, .f32⟩
  | .hbm, ⟨5, _⟩ => ⟨S4x8192x512, .f32⟩
  | .hbm, ⟨6, _⟩ => ⟨S4x8192x512, .f32⟩
  | .hbm, ⟨7, _⟩ => ⟨S4x8192x512, .bf16⟩
  | .hbm, ⟨8, _⟩ => ⟨S4x8192x64, .f32⟩
  | .hbm, ⟨9, _⟩ => ⟨S4x8192x64, .f32⟩
  | .hbm, ⟨10, _⟩ => ⟨S4x8192x128, .f32⟩
  | .hbm, ⟨11, _⟩ => ⟨S4x8192x256, .f32⟩
  | .hbm, ⟨12, _⟩ => ⟨S4x8192x256, .bf16⟩
  | .hbm, ⟨13, _⟩ => ⟨S4x8192x64, .f32⟩
  | .hbm, ⟨14, _⟩ => ⟨S4x8192x64, .f32⟩
  | .hbm, ⟨15, _⟩ => ⟨S4x8192x128, .f32⟩
  | .hbm, ⟨16, _⟩ => ⟨S4x8192x256, .f32⟩
  | .hbm, ⟨17, _⟩ => ⟨S4x8192x256, .bf16⟩
  | .hbm, ⟨18, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x512, .bf16⟩
  | .local _ .vmem, ⟨11, _⟩ => ⟨S1x512x512, .bf16⟩
  | .local _ .smem, ⟨0, _⟩ => ⟨S8, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S4x8192x512 : Shape := ⟨3, ![4, 8192, 512]⟩
abbrev S4x8192x128 : Shape := ⟨3, ![4, 8192, 128]⟩
abbrev S8 : Shape := ⟨1, ![8]⟩
abbrev S4x8192x8x64 : Shape := ⟨4, ![4, 8192, 8, 64]⟩
abbrev S4x8192x2x64 : Shape := ⟨4, ![4, 8192, 2, 64]⟩
abbrev S4x64x128x2x4x64 : Shape := ⟨6, ![4, 64, 128, 2, 4, 64]⟩
abbrev S4x64x128x2x64 : Shape := ⟨5, ![4, 64, 128, 2, 64]⟩
abbrev S4x63x128x2x64 : Shape := ⟨5, ![4, 63, 128, 2, 64]⟩
abbrev S_ : Shape := ⟨0, ![]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S4x64x8x128x256 : Shape := ⟨5, ![4, 64, 8, 128, 256]⟩
abbrev S8x1x1 : Shape := ⟨3, ![8, 1, 1]⟩
abbrev S4x64x8x128 : Shape := ⟨4, ![4, 64, 8, 128]⟩
abbrev S4x64x8x128x1 : Shape := ⟨5, ![4, 64, 8, 128, 1]⟩
abbrev S1x1x8x1x1 : Shape := ⟨5, ![1, 1, 8, 1, 1]⟩
abbrev S4x64x2x64x4x128 : Shape := ⟨6, ![4, 64, 2, 64, 4, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x128, .f32⟩
  | .hbm, ⟨2, _⟩ => ⟨S4x8192x128, .f32⟩
  | .hbm, ⟨3, _⟩ => ⟨S8, .f32⟩
  | .hbm, ⟨4, _⟩ => ⟨S4x8192x8x64, .f32⟩
  | .hbm, ⟨5, _⟩ => ⟨S4x8192x2x64, .f32⟩
  | .hbm, ⟨6, _⟩ => ⟨S4x8192x2x64, .f32⟩
  | .hbm, ⟨7, _⟩ => ⟨S4x64x128x2x4x64, .f32⟩
  | .hbm, ⟨8, _⟩ => ⟨S4x64x128x2x64, .f32⟩
  | .hbm, ⟨9, _⟩ => ⟨S4x64x128x2x64, .f32⟩
  | .hbm, ⟨10, _⟩ => ⟨S4x63x128x2x64, .f32⟩
  | .hbm, ⟨11, _⟩ => ⟨S_, .i32⟩
  | .hbm, ⟨12, _⟩ => ⟨S_, .f32⟩
  | .hbm, ⟨13, _⟩ => ⟨S4x64x128x2x64, .f32⟩
  | .hbm, ⟨14, _⟩ => ⟨S4x64x256x2x64, .f32⟩
  | .hbm, ⟨15, _⟩ => ⟨S4x63x128x2x64, .f32⟩
  | .hbm, ⟨16, _⟩ => ⟨S_, .i32⟩
  | .hbm, ⟨17, _⟩ => ⟨S_, .f32⟩
  | .hbm, ⟨18, _⟩ => ⟨S4x64x128x2x64, .f32⟩
  | .hbm, ⟨19, _⟩ => ⟨S4x64x256x2x64, .f32⟩
  | .hbm, ⟨20, _⟩ => ⟨S4x64x2x256x128x4, .f32⟩
  | .hbm, ⟨21, _⟩ => ⟨S4x64x2x4x128x256, .f32⟩
  | .hbm, ⟨22, _⟩ => ⟨S_, .f32⟩
  | .hbm, ⟨23, _⟩ => ⟨S4x64x2x4x128x256, .f32⟩
  | .hbm, ⟨24, _⟩ => ⟨S4x64x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S1x128x256, .i1⟩
  | .hbm, ⟨43, _⟩ => ⟨S64, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S64x1x256, .i1⟩
  | .hbm, ⟨53, _⟩ => ⟨S64x1x256, .i1⟩
  | .hbm, ⟨54, _⟩ => ⟨S64x1x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S64x1x1x128x256, .i1⟩
  | .hbm, ⟨59, _⟩ => ⟨S_, .f32⟩
  | .hbm, ⟨60, _⟩ => ⟨S_, .f32⟩
  | .hbm, ⟨61, _⟩ => ⟨S4x64x2x4x128x256, .i1⟩
  | .hbm, ⟨62, _⟩ => ⟨S4x64x2x4x128x256, .f32⟩
  | .hbm, ⟨63, _⟩ => ⟨S4x64x2x4x128x256, .f32⟩
  | .hbm, ⟨64, _⟩ => ⟨S4x64x8x128x256, .f32⟩
  | .hbm, ⟨65, _⟩ => ⟨S8x1x1, .f32⟩
  | .hbm, ⟨66, _⟩ => ⟨S_, .f32⟩
  | .hbm, ⟨67, _⟩ => ⟨S4x64x8x128, .f32⟩
  | .hbm, ⟨68, _⟩ => ⟨S4x64x8x128x1, .f32⟩
  | .hbm, ⟨69, _⟩ => ⟨S1x1x8x1x1, .f32⟩
  | .hbm, ⟨70, _⟩ => ⟨S4x64x8x128x1, .f32⟩
  | .hbm, ⟨71, _⟩ => ⟨S4x64x8x128x1, .f32⟩
  | .hbm, ⟨72, _⟩ => ⟨S4x64x8x128x256, .f32⟩
  | .hbm, ⟨73, _⟩ => ⟨S4x64x8x128x256, .f32⟩
  | .hbm, ⟨74, _⟩ => ⟨S4x64x8x128x256, .f32⟩
  | .hbm, ⟨75, _⟩ => ⟨S_, .f32⟩
  | .hbm, ⟨76, _⟩ => ⟨S4x64x8x128, .f32⟩
  | .hbm, ⟨77, _⟩ => ⟨S4x64x8x128x1, .f32⟩
  | .hbm, ⟨78, _⟩ => ⟨S1x1x8x1x1, .f32⟩
  | .hbm, ⟨79, _⟩ => ⟨S4x64x8x128x1, .f32⟩
  | .hbm, ⟨80, _⟩ => ⟨S4x64x8x128x1, .f32⟩
  | .hbm, ⟨81, _⟩ => ⟨S4x64x8x128x1, .f32⟩
  | .hbm, ⟨82, _⟩ => ⟨S4x64x8x128x1, .f32⟩
  | .hbm, ⟨83, _⟩ => ⟨S4x64x8x128x256, .f32⟩
  | .hbm, ⟨84, _⟩ => ⟨S4x64x8x128x256, .f32⟩
  | .hbm, ⟨85, _⟩ => ⟨S4x64x2x4x128x256, .f32⟩
  | .hbm, ⟨86, _⟩ => ⟨S4x64x2x64x4x128, .f32⟩
  | .hbm, ⟨87, _⟩ => ⟨S4x64x128x2x4x64, .f32⟩
  | .hbm, ⟨88, _⟩ => ⟨S4x8192x512, .f32⟩
  | .hbm, ⟨89, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Ffn.lean ====
abbrev S32768x1024 : Shape := ⟨2, ![32768, 1024]⟩
abbrev S32768x512 : Shape := ⟨2, ![32768, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1536x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1536x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnIdeal.lean ====
abbrev S32768x1024 : Shape := ⟨2, ![32768, 1024]⟩
abbrev S32768x512 : Shape := ⟨2, ![32768, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1536x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1536x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S32768x1024 : Shape := ⟨2, ![32768, 1024]⟩
abbrev S32768x512 : Shape := ⟨2, ![32768, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S32768x1536 : Shape := ⟨2, ![32768, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S32768x512, .f32⟩
  | .hbm, ⟨8, _⟩ => ⟨S32768x1024, .f32⟩
  | .hbm, ⟨9, _⟩ => ⟨S32768x1536, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x5632, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== FfnSample.lean ====
abbrev S512x1024 : Shape := ⟨2, ![512, 1024]⟩
abbrev S512x512 : Shape := ⟨2, ![512, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x1024, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1536x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x1024, .bf16⟩
  | .local _ .vmem, ⟨3, _⟩ => ⟨S1536x1024, .bf16⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== FfnSampleRefIdeal.lean ====
abbrev S512x1024 : Shape := ⟨2, ![512, 1024]⟩
abbrev S512x512 : Shape := ⟨2, ![512, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S512x1536 : Shape := ⟨2, ![512, 1536]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x1024, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S512x512, .f32⟩
  | .hbm, ⟨8, _⟩ => ⟨S512x1024, .f32⟩
  | .hbm, ⟨9, _⟩ => ⟨S512x1536, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x5632, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S_, .f32⟩
  | .hbm, ⟨34, _⟩ => ⟨S512x2816, .f32⟩
  | .hbm, ⟨35, _⟩ => ⟨S512x2816, .f32⟩
  | .hbm, ⟨36, _⟩ => ⟨S_, .f32⟩
  | .hbm, ⟨37, _⟩ => ⟨S512x2816, .f32⟩
  | .hbm, ⟨38, _⟩ => ⟨S512x2816, .f32⟩
  | .hbm, ⟨39, _⟩ => ⟨S512x2816, .f32⟩
  | .hbm, ⟨40, _⟩ => ⟨S512x2816, .f32⟩
  | .hbm, ⟨41, _⟩ => ⟨S512x1024, .f32⟩
  | .hbm, ⟨42, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== State.lean ====
abbrev S128x4x1024 : Shape := ⟨3, ![128, 4, 1024]⟩
abbrev S128x4x512 : Shape := ⟨3, ![128, 4, 512]⟩
abbrev S128x4x128 : Shape := ⟨3, ![128, 4, 128]⟩
abbrev S128x16x64x128 : Shape := ⟨4, ![128, 16, 64, 128]⟩
abbrev S16 : Shape := ⟨1, ![16]⟩
abbrev S1024 : Shape := ⟨1, ![1024]⟩
abbrev S_ : Shape := ⟨0, ![]⟩
abbrev S128 : Shape := ⟨1, ![128]⟩
abbrev S1x128 : Shape := ⟨2, ![1, 128]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S128x1 : Shape := ⟨2, ![128, 1]⟩
abbrev S1x1024 : Shape := ⟨2, ![1, 1024]⟩
abbrev S128x1024 : Shape := ⟨2, ![128, 1024]⟩
abbrev S128x8x1024 : Shape := ⟨3, ![128, 8, 1024]⟩
abbrev S128x8x512 : Shape := ⟨3, ![128, 8, 512]⟩
abbrev S128x8x128 : Shape := ⟨3, ![128, 8, 128]⟩
abbrev S16x64 : Shape := ⟨2, ![16, 64]⟩
abbrev S8x8x1024 : Shape := ⟨3, ![8, 8, 1024]⟩
abbrev S8x8x512 : Shape := ⟨3, ![8, 8, 512]⟩
abbrev S8x8x128 : Shape := ⟨3, ![8, 8, 128]⟩
abbrev S8x16x64x128 : Shape := ⟨4, ![8, 16, 64, 128]⟩
abbrev S8x512 : Shape := ⟨2, ![8, 512]⟩
abbrev S1x8x128 : Shape := ⟨3, ![1, 8, 128]⟩
abbrev S8x128 : Shape := ⟨2, ![8, 128]⟩
abbrev S8x1024 : Shape := ⟨2, ![8, 1024]⟩
abbrev S1x8x1024 : Shape := ⟨3, ![1, 8, 1024]⟩
abbrev S128x128 : Shape := ⟨2, ![128, 128]⟩
abbrev S1x8x512 : Shape := ⟨3, ![1, 8, 512]⟩
abbrev S1x512 : Shape := ⟨2, ![1, 512]⟩
abbrev S1x8x64x128 : Shape := ⟨4, ![1, 8, 64, 128]⟩
abbrev S8x64x128 : Shape := ⟨3, ![8, 64, 128]⟩
abbrev S512x128 : Shape := ⟨2, ![512, 128]⟩
abbrev S1x1x64x128 : Shape := ⟨4, ![1, 1, 64, 128]⟩
abbrev S64x128 : Shape := ⟨2, ![64, 128]⟩

abbrev nBuf : Space → Nat
  | .hbm => 64
  | .vmem => 19
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S128x4x128, .f32⟩
  | .hbm, ⟨3, _⟩ => ⟨S128x4x1024, .f32⟩
  | .hbm, ⟨4, _⟩ => ⟨S128x16x64x128, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S8, .i32⟩
  | .hbm, ⟨13, _⟩ => ⟨S8x1, .i32⟩
  | .hbm, ⟨14, _⟩ => ⟨S8, .i32⟩
  | .hbm, ⟨15, _⟩ => ⟨S1x8, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .bf16⟩
  | .hbm, ⟨20, _⟩ => ⟨S128, .i32⟩
  | .hbm, ⟨21, _⟩ => ⟨S128x1, .i32⟩
  | .hbm, ⟨22, _⟩ => ⟨S1024, .i32⟩
  | .hbm, ⟨23, _⟩ => ⟨S_, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1x1024, .i32⟩
  | .hbm, ⟨42, _⟩ => ⟨S128x1024, .i32⟩
  | .hbm, ⟨43, _⟩ => ⟨S128x1024, .i32⟩
  | .hbm, ⟨44, _⟩ => ⟨S128x1024, .i1⟩
  | .hbm, ⟨45, _⟩ => ⟨S128x1024, .bf16⟩
  | .hbm, ⟨46, _⟩ => ⟨S_, .i32⟩
  | .hbm, ⟨47, _⟩ => ⟨S_, .f32⟩
  | .hbm, ⟨48, _⟩ => ⟨S128x8x1024, .f32⟩
  | .hbm, ⟨49, _⟩ => ⟨S_, .i32⟩
  | .hbm, ⟨50, _⟩ => ⟨S_, .bf16⟩
  | .hbm, ⟨51, _⟩ => ⟨S128x8x512, .bf16⟩
  | .hbm, ⟨52, _⟩ => ⟨S_, .i32⟩
  | .hbm, ⟨53, _⟩ => ⟨S_, .f32⟩
  | .hbm, ⟨54, _⟩ => ⟨S128x8x128, .f32⟩
  | .hbm, ⟨55, _⟩ => ⟨S_, .i32⟩
  | .hbm, ⟨56, _⟩ => ⟨S_, .f32⟩
  | .hbm, ⟨57, _⟩ => ⟨S128x8x1024, .f32⟩
  | .hbm, ⟨58, _⟩ => ⟨S16x64, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S128x8x1024, .bf16⟩
  | .hbm, ⟨63, _⟩ => ⟨S128x16x64x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x512, .bf16⟩
  | .local _ .vmem, ⟨3, _⟩ => ⟨S8x8x512, .bf16⟩
  | .local _ .vmem, ⟨4, _⟩ => ⟨S8x8x128, .f32⟩
  | .local _ .vmem, ⟨5, _⟩ => ⟨S8x8x128, .f32⟩
  | .local _ .vmem, ⟨6, _⟩ => ⟨S8x8x1024, .f32⟩
  | .local _ .vmem, ⟨7, _⟩ => ⟨S8x8x1024, .f32⟩
  | .local _ .vmem, ⟨8, _⟩ => ⟨S8x16x64x128, .f32⟩
  | .local _ .vmem, ⟨9, _⟩ => ⟨S8x16x64x128, .f32⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S8x8, .bf16⟩
  | .local _ .vmem, ⟨14, _⟩ => ⟨S128x1024, .bf16⟩
  | .local _ .vmem, ⟨15, _⟩ => ⟨S8x8x1024, .bf16⟩
  | .local _ .vmem, ⟨16, _⟩ => ⟨S8x8x1024, .bf16⟩
  | .local _ .vmem, ⟨17, _⟩ => ⟨S8x16x64x128, .f32⟩
  | .local _ .vmem, ⟨18, _⟩ => ⟨S8x16x64x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_call2_v0 : Ref sig .tc := ⟨.hbm, 47, rfl⟩
abbrev main_v19 : Ref sig .tc := ⟨.hbm, 48, rfl⟩
abbrev main_c_2 : Ref sig .tc := ⟨.hbm, 49, rfl⟩
abbrev main_call3_v0 : Ref sig .tc := ⟨.hbm, 50, rfl⟩
abbrev main_v20 : Ref sig .tc := ⟨.hbm, 51, rfl⟩
abbrev main_c_3 : Ref sig .tc := ⟨.hbm, 52, rfl⟩
abbrev main_call4_v0 : Ref sig .tc := ⟨.hbm, 53, rfl⟩
abbrev main_v21 : Ref sig .tc := ⟨.hbm, 54, rfl⟩
abbrev main_c_4 : Ref sig .tc := ⟨.hbm, 55, rfl⟩
abbrev main_call5_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27_0 : Ref sig .tc := ⟨.hbm, 62, rfl⟩
abbrev main_v27_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v11 : Index := Scalar.indexCast arg13
  let c0_6 : Index := 0#32
  let c0_7 : Index := 0#32
  ![v11.toNat, 0, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v40 : Index := Scalar.indexCast arg13
  let c0_14 : Index := 0#32
  let c0_15 : Index := 0#32
  ![v40.toNat, 0, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v68 : Index := Scalar.indexCast arg13
  let c0_19 : Index := 0#32
  let c0_20 : Index := 0#32
  ![v68.toNat, 0, 0]
def k0_off4 (k0_t1 : Fin k0_t1_loop.trips) : Fin 4 → Nat :=
  let c0_i32 : BitVec 32 := 0#32
  let c1_i32 : BitVec 32 := 1#32
  let arg13 : BitVec 32 := Scf.iv c0_i32 c1_i32 k0_t1
  let v139 : Index := Scalar.indexCast arg13
  let c0_31 : Index := 0#32
  let c0_32 : Index := 0#32
  let c0_33 : Index := 0#32
  ![v139.toNat, 0, 0, 0]
def k0_off5 (k0_t1 : Fin k0_t1_loop.trips) : Fin 3 → Nat :=
  let c0_i32 : BitVec 32 := 0#32
  let c1_i32 : BitVec 32 := 1#32
  let arg13 : BitVec 32 := Scf.iv c0_i32 c1_i32 k0_t1
  let v177 : Index := Scalar.indexCast arg13
  let c0_44 : Index := 0#32
  let c0_45 : Index := 0#32
  ![v177.toNat, 0, 0]
def k0_off6 (k0_t1 : Fin k0_t1_loop.trips) : Fin 4 → Nat :=
  let c0_i32 : BitVec 32 := 0#32
  let c1_i32 : BitVec 32 := 1#32
  let arg13 : BitVec 32 := Scf.iv c0_i32 c1_i32 k0_t1
  let v183 : Index := Scalar.indexCast arg13
  let c0_47 : Index := 0#32
  let c0_48 : Index := 0#32
  let c0_49 : Index := 0#32
  ![v183.toNat, 0, 0, 0]
def k0_off7 (k0_t1 : Fin k0_t1_loop.trips) : Fin 4 → Nat :=
  let c0_i32 : BitVec 32 := 0#32
  let c1_i32 : BitVec 32 := 1#32
  let arg13 : BitVec 32 := Scf.iv c0_i32 c1_i32 k0_t1
  let v195 : Index := Scalar.indexCast arg13
  let c1 : Index := 1#32
  let c0_53 : Index := 0#32
  let c0_54 : Index := 0#32
  ![v195.toNat, 1, 0, 0]
def k0_off8 (k0_t1 : Fin k0_t1_loop.trips) : Fin 4 → Nat :=
  let c0_i32 : BitVec 32 := 0#32
  let c1_i32 : BitVec 32 := 1#32
  let arg13 : BitVec 32 := Scf.iv c0_i32 c1_i32 k0_t1
  let v207 : Index := Scalar.indexCast arg13
  let c2 : Index := 2#32
  let c0_58 : Index := 0#32
  let c0_59 : Index := 0#32
  ![v207.toNat, 2, 0, 0]
def k0_off9 (k0_t1 : Fin k0_t1_loop.trips) : Fin 4 → Nat :=
  let c0_i32 : BitVec 32 := 0#32
  let c1_i32 : BitVec 32 := 1#32
  let arg13 : BitVec 32 := Scf.iv c0_i32 c1_i32 k0_t1
  let v219 : Index := Scalar.indexCast arg13
  let c3 : Index := 3#32
  let c0_63 : Index := 0#32
  let c0_64 : Index := 0#32
  ![v219.toNat, 3, 0, 0]
def k0_off10 (k0_t1 : Fin k0_t1_loop.trips) : Fin 4 → Nat :=
  let c0_i32 : BitVec 32 := 0#32
  let c1_i32 : BitVec 32 := 1#32
  let arg13 : BitVec 32 := Scf.iv c0_i32 c1_i32 k0_t1
  let v231 : Index := Scalar.indexCast arg13
  let c4 : Index := 4#32
  let c0_68 : Index := 0#32
  let c0_69 : Index := 0#32
  ![v231.toNat, 4, 0, 0]
def k0_off11 (k0_t1 : Fin k0_t1_loop.trips) : Fin 4 → Nat :=
  let c0_i32 : BitVec 32 := 0#32
  let c1_i32 : BitVec 32 := 1#32
  let arg13 : BitVec 32 := Scf.iv c0_i32 c1_i32 k0_t1
  let v243 : Index := Scalar.indexCast arg13
  let c5 : Index := 5#32
  let c0_73 : Index := 0#32
  let c0_74 : Index := 0#32
  ![v243.toNat, 5, 0, 0]
def k0_off12 (k0_t1 : Fin k0_t1_loop.trips) : Fin 4 → Nat :=
  let c0_i32 : BitVec 32 := 0#32
  let c1_i32 : BitVec 32 := 1#32
  let arg13 : BitVec 32 := Scf.iv c0_i32 c1_i32 k0_t1
  let v255 : Index := Scalar.indexCast arg13
  let c6 : Index := 6#32
  let c0_78 : Index := 0#32
  let c0_79 : Index := 0#32
  ![v255.toNat, 6, 0, 0]
def k0_off13 (k0_t1 : Fin k0_t1_loop.trips) : Fin 4 → Nat :=
  let c0_i32 : BitVec 32 := 0#32
  let c1_i32 : BitVec 32 := 1#32
  let arg13 : BitVec 32 := Scf.iv c0_i32 c1_i32 k0_t1
  let v267 : Index := Scalar.indexCast arg13
  let c7 : Index := 7#32
  let c0_83 : Index := 0#32
  let c0_84 : Index := 0#32
  ![v267.toNat, 7, 0, 0]
def k0_off14 (k0_t1 : Fin k0_t1_loop.trips) : Fin 4 → Nat :=
  let c0_i32 : BitVec 32 := 0#32
  let c1_i32 : BitVec 32 := 1#32
  let arg13 : BitVec 32 := Scf.iv c0_i32 c1_i32 k0_t1
  let v344 : Index := Scalar.indexCast arg13
  let c8 : Index := 8#32
  let c0_98 : Index := 0#32
  let c0_99 : Index := 0#32
  ![v344.toNat, 8, 0, 0]
def k0_off15 (k0_t1 : Fin k0_t1_loop.trips) : Fin 3 → Nat :=
  let c0_i32 : BitVec 32 := 0#32
  let c1_i32 : BitVec 32 := 1#32
  let arg13 : BitVec 32 := Scf.iv c0_i32 c1_i32 k0_t1
  let v382 : Index := Scalar.indexCast arg13
  let c0_109 : Index := 0#32
  let c512_110 : Index := 512#32
  ![v382.toNat, 0, 512]
def k0_off16 (k0_t1 : Fin k0_t1_loop.trips) : Fin 4 → Nat :=
  let c0_i32 : BitVec 32 := 0#32
  let c1_i32 : BitVec 32 := 1#32
  let arg13 : BitVec 32 := Scf.iv c0_i32 c1_i32 k0_t1
  let v388 : Index := Scalar.indexCast arg13
  let c8_112 : Index := 8#32
  let c0_113 : Index := 0#32
  let c0_114 : Index := 0#32
  ![v388.toNat, 8, 0, 0]
def k0_off17 (k0_t1 : Fin k0_t1_loop.trips) : Fin 4 → Nat :=
  let c0_i32 : BitVec 32 := 0#32
  let c1_i32 : BitVec 32 := 1#32
  let arg13 : BitVec 32 := Scf.iv c0_i32 c1_i32 k0_t1
  let v400 : Index := Scalar.indexCast arg13
  let c9 : Index := 9#32
  let c0_118 : Index := 0#32
  let c0_119 : Index := 0#32
  ![v400.toNat, 9, 0, 0]
def k0_off18 (k0_t1 : Fin k0_t1_loop.trips) : Fin 4 → Nat :=
  let c0_i32 : BitVec 32 := 0#32
  let c1_i32 : BitVec 32 := 1#32
  let arg13 : BitVec 32 := Scf.iv c0_i32 c1_i32 k0_t1
  let v412 : Index := Scalar.indexCast arg13
  let c10 : Index := 10#32
  let c0_123 : Index := 0#32
  let c0_124 : Index := 0#32
  ![v412.toNat, 10, 0, 0]
def k0_off19 (k0_t1 : Fin k0_t1_loop.trips) : Fin 4 → Nat :=
  let c0_i32 : BitVec 32 := 0#32
  let c1_i32 : BitVec 32 := 1#32
  let arg13 : BitVec 32 := Scf.iv c0_i32 c1_i32 k0_t1
  let v424 : Index := Scalar.indexCast arg13
  let c11 : Index := 11#32
  let c0_128 : Index := 0#32
  let c0_129 : Index := 0#32
  ![v424.toNat, 11, 0, 0]
def k0_off20 (k0_t1 : Fin k0_t1_loop.trips) : Fin 4 → Nat :=
  let c0_i32 : BitVec 32 := 0#32
  let c1_i32 : BitVec 32 := 1#32
  let arg13 : BitVec 32 := Scf.iv c0_i32 c1_i32 k0_t1
  let v436 : Index := Scalar.indexCast arg13
  let c12 : Index := 12#32
  let c0_133 : Index := 0#32
  let c0_134 : Index := 0#32
  ![v436.toNat, 12, 0, 0]
def k0_off21 (k0_t1 : Fin k0_t1_loop.trips) : Fin 4 → Nat :=
  let c0_i32 : BitVec 32 := 0#32
  let c1_i32 : BitVec 32 := 1#32
  let arg13 : BitVec 32 := Scf.iv c0_i32 c1_i32 k0_t1
  let v448 : Index := Scalar.indexCast arg13
  let c13 : Index := 13#32
  let c0_138 : Index := 0#32
  let c0_139 : Index := 0#32
  ![v448.toNat, 13, 0, 0]
def k0_off22 (k0_t1 : Fin k0_t1_loop.trips) : Fin 4 → Nat :=
  let c0_i32 : BitVec 32 := 0#32
  let c1_i32 : BitVec 32 := 1#32
  let arg13 : BitVec 32 := Scf.iv c0_i32 c1_i32 k0_t1
  let v460 : Index := Scalar.indexCast arg13
  let c14 : Index := 14#32
  let c0_143 : Index := 0#32
  let c0_144 : Index := 0#32
  ![v460.toNat, 14, 0, 0]
def k0_off23 (k0_t1 : Fin k0_t1_loop.trips) : Fin 4 → Nat :=
  let c0_i32 : BitVec 32 := 0#32
  let c1_i32 : BitVec 32 := 1#32
  let arg13 : BitVec 32 := Scf.iv c0_i32 c1_i32 k0_t1
  let v472 : Index := Scalar.indexCast arg13
  let c15 : Index := 15#32
  let c0_148 : Index := 0#32
  let c0_149 : Index := 0#32
  ![v472.toNat, 15, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x8x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x16x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== StateRefIdeal.lean ====
abbrev S128x4x1024 : Shape := ⟨3, ![128, 4, 1024]⟩
abbrev S128x4x512 : Shape := ⟨3, ![128, 4, 512]⟩
abbrev S128x4x128 : Shape := ⟨3, ![128, 4, 128]⟩
abbrev S128x16x64x128 : Shape := ⟨4, ![128, 16, 64, 128]⟩
abbrev S16 : Shape := ⟨1, ![16]⟩
abbrev S1024 : Shape := ⟨1, ![1024]⟩
abbrev S128x4x256 : Shape := ⟨3, ![128, 4, 256]⟩
abbrev S128x4x2x128 : Shape := ⟨4, ![128, 4, 2, 128]⟩
abbrev S128x4x16x64 : Shape := ⟨4, ![128, 4, 16, 64]⟩
abbrev S128x4x16 : Shape := ⟨3, ![128, 4, 16]⟩
abbrev S1x1x16 : Shape := ⟨3, ![1, 1, 16]⟩
abbrev S_ : Shape := ⟨0, ![]⟩
abbrev S128x4x16x1 : Shape := ⟨4, ![128, 4, 16, 1]⟩
abbrev S128x1x16 : Shape := ⟨3, ![128, 1, 16]⟩
abbrev S128x4x2x8x64 : Shape := ⟨5, ![128, 4, 2, 8, 64]⟩
abbrev S128x2x8x64x128 : Shape := ⟨5, ![128, 2, 8, 64, 128]⟩
abbrev S128x16 : Shape := ⟨2, ![128, 16]⟩
abbrev S128x16x1x1 : Shape := ⟨4, ![128, 16, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S128x4x128, .f32⟩
  | .hbm, ⟨3, _⟩ => ⟨S128x4x1024, .f32⟩
  | .hbm, ⟨4, _⟩ => ⟨S128x16x64x128, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S16, .f32⟩
  | .hbm, ⟨9, _⟩ => ⟨S16, .f32⟩
  | .hbm, ⟨10, _⟩ => ⟨S128x4x256, .bf16⟩
  | .hbm, ⟨11, _⟩ => ⟨S128x4x2x128, .bf16⟩
  | .hbm, ⟨12, _⟩ => ⟨S128x4x2x128, .f32⟩
  | .hbm, ⟨13, _⟩ => ⟨S128x4x16x64, .f32⟩
  | .hbm, ⟨14, _⟩ => ⟨S128x4x16, .f32⟩
  | .hbm, ⟨15, _⟩ => ⟨S1x1x16, .f32⟩
  | .hbm, ⟨16, _⟩ => ⟨S128x4x16, .f32⟩
  | .hbm, ⟨17, _⟩ => ⟨S128x4x16, .f32⟩
  | .hbm, ⟨18, _⟩ => ⟨S_, .f32⟩
  | .hbm, ⟨19, _⟩ => ⟨S_, .f32⟩
  | .hbm, ⟨20, _⟩ => ⟨S128x4x16, .f32⟩
  | .hbm, ⟨21, _⟩ => ⟨S128x4x16x1, .f32⟩
  | .hbm, ⟨22, _⟩ => ⟨S128x4x16x64, .f32⟩
  | .hbm, ⟨23, _⟩ => ⟨S128x4x16x64, .f32⟩
  | .hbm, ⟨24, _⟩ => ⟨S128x1x16, .f32⟩
  | .hbm, ⟨25, _⟩ => ⟨S128x4x16, .f32⟩
  | .hbm, ⟨26, _⟩ => ⟨S128x4x16, .f32⟩
  | .hbm, ⟨27, _⟩ => ⟨S128x4x16, .f32⟩
  | .hbm, ⟨28, _⟩ => ⟨S128x4x16x1, .f32⟩
  | .hbm, ⟨29, _⟩ => ⟨S128x4x16x64, .f32⟩
  | .hbm, ⟨30, _⟩ => ⟨S128x4x16x64, .f32⟩
  | .hbm, ⟨31, _⟩ => ⟨S128x4x2x8x64, .f32⟩
  | .hbm, ⟨32, _⟩ => ⟨S128x2x8x64x128, .f32⟩
  | .hbm, ⟨33, _⟩ => ⟨S128x1x16, .f32⟩
  | .hbm, ⟨34, _⟩ => ⟨S128x16, .f32⟩
  | .hbm, ⟨35, _⟩ => ⟨S128x16, .f32⟩
  | .hbm, ⟨36, _⟩ => ⟨S128x16x1x1, .f32⟩
  | .hbm, ⟨37, _⟩ => ⟨S128x16x64x128, .f32⟩
  | .hbm, ⟨38, _⟩ => ⟨S128x16x64x128, .f32⟩
  | .hbm, ⟨39, _⟩ => ⟨S128x16x64x128, .f32⟩
  | .hbm, ⟨40, _⟩ => ⟨S128x16x64x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_call0_cst : Ref sig .tc := ⟨.hbm, 18, rfl⟩
abbrev main_call0_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.RowSpec.lean ====
/-
  The second half of a layer, ROW BY ROW, as functions of one row of each operand: the output projection of the two
  head groups added to the residual row, the RMS normalisation of the result, and the SwiGLU feed-forward block added
  to it. Both programs are shown to compute `rowOut` of their rows (`FfnRef.lean`, `FfnKernel.lean`).
-/
module

public import Idealize.ShloMosaic.Lib.Pointwise

@[expose] public section

set_option maxRecDepth 16384

noncomputable section

open Idealize.ShloMosaic Idealize.ShloMosaic.TcCoe Idealize.SL.Sem

namespace Cert.Hand.Row

/-- The residual row plus the output projection: the 512 attention columns meet rows 0–511 of the weight, the 1024
    state-space columns meet rows 512–1535. -/
def mid (x : Fin 1024 → EReal) (o : Fin 512 → EReal) (y : Fin 1024 → EReal) (w : Fin 1536 → Fin 1024 → EReal)
    (c : Fin 1024) : EReal :=
  x c + (∑ k : Fin 512, o k * w ⟨k, by omega⟩ c + ∑ k : Fin 1024, y k * w ⟨512 + k, by omega⟩ c)

/-- The RMS normalisation of a row `u`, times the gain `g`. -/
def norm (u g : Fin 1024 → EReal) (c : Fin 1024) : EReal :=
  u c * Ideal.rsqrt (Ideal.div (∑ k, u k * u k) (Ideal.ofBits FTy.f32 1149239296#32) + Ideal.ofBits FTy.f32 897988541#32) * g c

/-- Column `j` of the projection of a row `h`. -/
def proj {n : ℕ} (h : Fin 1024 → EReal) (w : Fin 1024 → Fin n → EReal) (j : Fin n) : EReal := ∑ k, h k * w k j

/-- `silu a · b`, the sigmoid written as a reciprocal. -/
def glu (a b : EReal) : EReal := a * Ideal.div 1 (1 + Ideal.exp (-a)) * b

/-- Hidden unit `j` of the feed-forward block: gate column `j`, up column `2816 + j`. -/
def hidden (h : Fin 1024 → EReal) (w : Fin 1024 → Fin 5632 → EReal) (j : Fin 2816) : EReal :=
  glu (proj h w ⟨j, by omega⟩) (proj h w ⟨2816 + j, by omega⟩)

/-- The feed-forward block of the normalised row, added to the row. -/
def ffn (u g : Fin 1024 → EReal) (wg : Fin 1024 → Fin 5632 → EReal) (wd : Fin 2816 → Fin 1024 → EReal)
    (c : Fin 1024) : EReal :=
  u c + ∑ j, hidden (norm u g) wg j * wd j c

/-- The whole second half of the layer on one row. -/
def rowOut (x : Fin 1024 → EReal) (o : Fin 512 → EReal) (y : Fin 1024 → EReal) (wo : Fin 1536 → Fin 1024 → EReal)
    (g : Fin 1024 → EReal) (wg : Fin 1024 → Fin 5632 → EReal) (wd : Fin 2816 → Fin 1024 → EReal) : Fin 1024 → EReal :=
  ffn (mid x o y wo) g wg wd

/-- Dividing by `1 + exp (-a)` is multiplying by its reciprocal: the divisor is at least one, so never zero. -/
theorem div_one_add_exp (a b : EReal) : Ideal.div a (1 + Ideal.exp b) = a * Ideal.div 1 (1 + Ideal.exp b) := by
  have h : (1 + Ideal.exp b : EReal) ≠ 0 := by
    have h0 : (0 : EReal) ≤ Ideal.exp b := by
      induction b using EReal.rec with
      | bot => exact le_rfl
      | top => exact le_top
      | coe r => exact EReal.coe_nonneg.mpr (Real.exp_pos r).le
    exact ne_of_gt (lt_of_lt_of_le zero_lt_one (le_add_of_nonneg_right h0))
  simp only [Ideal.div, if_neg h, one_mul]

/-- The kernel's gate, `a / (1 + exp (0 - a)) · b`, is `glu`. -/
theorem glu_eq (a b : EReal) : Ideal.div a (1 + Ideal.exp (0 - a)) * b = glu a b := by
  rw [glu, zero_sub, div_one_add_exp]

/-- The hidden axis in its two halves of 1408 units. -/
theorem sum_hidden (f : Fin 2816 → EReal) :
    ∑ j, f j = ∑ j : Fin 1408, f ⟨j, by omega⟩ + ∑ j : Fin 1408, f ⟨1408 + j, by omega⟩ :=
  Fin.sum_univ_two_halves 1408 1408 rfl f

end Cert.Hand.Row
end
-- ==== Proof.FfnKernel.lean ====
/-
  The feed-forward kernel's body on one block of rows: row `r` of what it stores is `Row.rowOut` of row `r` of its
  blocks, the weights being read through the slices the body loads.
-/
module

public import proofs.«01_k».proof.Proof.Gen.FfnIdeal.Skeleton
public import proofs.«01_k».proof.Proof.RowSpec
public import Idealize.ShloMosaic.Lib.Pointwise

@[expose] public section

set_option maxRecDepth 16384

noncomputable section

open Idealize.ShloMosaic Idealize.ShloMosaic.TcCoe Idealize.SL.Sem

namespace Cert.Hand.FfnKernel
open Cert.FfnIdeal Cert.FfnIdeal.Gen

variable (v0 : Vec Ideal S512x1024 .f32) (v1 : Vec Ideal S512x512 .bf16) (v2 : Vec Ideal S512x1024 .bf16)
  (v6 : Vec Ideal S512x1024 .bf16) (v7 : Vec Ideal S1024x1024 .bf16) (v11 : Vec Ideal S1x1024 .f32)
  (v27 v30 v45 v48 : Vec Ideal S1024x1408 .bf16) (v41 v59 : Vec Ideal S1408x1024 .bf16)

/-- The output projection added to the residual row. -/
theorem mid_at (x : Fin 1024 → EReal) (o : Fin 512 → EReal) (y : Fin 1024 → EReal) (wo : Fin 1536 → Fin 1024 → EReal) (r : Fin 512)
    (hx : ∀ k : Fin 1024, v0 (ix2 r k) = x k) (ho : ∀ k : Fin 512, v1 (ix2 r k) = o k) (hy : ∀ k : Fin 1024, v6 (ix2 r k) = y k)
    (hw : ∀ (k : Fin 512) (c : Fin 1024), v2 (ix2 k c) = wo ⟨k, by omega⟩ c)
    (hw' : ∀ (k : Fin 1024) (c : Fin 1024), v7 (ix2 k c) = wo ⟨512 + k, by omega⟩ c) (c : Fin 1024) :
    k0_pay2 v0 v1 v2 v6 v7 (ix2 r c) = Row.mid x o y wo c := by
  pointwise [k0_pay2]
  simp only [hx, ho, hy, hw, hw', Row.mid, add_assoc]

/-- The normalised row. -/
theorem norm_at (u : Fin 1024 → EReal) (g : Fin 1024 → EReal) (r : Fin 512)
    (hu : ∀ c : Fin 1024, k0_pay2 v0 v1 v2 v6 v7 (ix2 r c) = u c) (hg : ∀ c : Fin 1024, v11 (ix2 0 c) = g c) (c : Fin 1024) :
    k0_pay3 v0 v1 v2 v6 v7 v11 (ix2 r c) = Row.norm u g c := by
  pointwise [k0_pay3]
  simp only [hu, hg, Row.norm]

/-- The body's last part: from the row `u`, the normalised row `h` and the first half's gate and up columns, the two
    halves of the hidden axis are projected down and added to `u`. -/
theorem last_at (v10 : FVec Ideal S512x1024 .f32) (v25 : FVec Ideal S512x1024 .bf16) (v29 v32 : FVec Ideal S512x1408 .f32)
    (u h : Fin 1024 → EReal) (wg : Fin 1024 → Fin 5632 → EReal) (wd : Fin 2816 → Fin 1024 → EReal) (r : Fin 512)
    (hu : ∀ c : Fin 1024, v10 (ix2 r c) = u c) (hh : ∀ k : Fin 1024, v25 (ix2 r k) = h k)
    (h29 : ∀ j : Fin 1408, v29 (ix2 r j) = Row.proj h wg ⟨j, by omega⟩)
    (h32 : ∀ j : Fin 1408, v32 (ix2 r j) = Row.proj h wg ⟨2816 + j, by omega⟩)
    (h45 : ∀ (k : Fin 1024) (j : Fin 1408), v45 (ix2 k j) = wg k ⟨1408 + j, by omega⟩)
    (h48 : ∀ (k : Fin 1024) (j : Fin 1408), v48 (ix2 k j) = wg k ⟨2816 + (1408 + j), by omega⟩)
    (h41 : ∀ (j : Fin 1408) (c : Fin 1024), v41 (ix2 j c) = wd ⟨j, by omega⟩ c)
    (h59 : ∀ (j : Fin 1408) (c : Fin 1024), v59 (ix2 j c) = wd ⟨1408 + j, by omega⟩ c) (c : Fin 1024) :
    k0_pay1 v10 v25 (k0_pay4 (F := Ideal)) v29 v32 (k0_pay7 (F := Ideal)) v41 v45 v48 v59 (ix2 r c)
      = u c + ∑ j, Row.hidden h wg j * wd j c := by
  pointwise [k0_pay1, k0_pay4, k0_pay7]
  simp only [hu, hh, h29, h32, h45, h48, h41, h59, Row.glu_eq, zero_add]
  rw [Row.sum_hidden]
  rfl

/-- What the body stores, row by row. -/
theorem body_at (x : Fin 1024 → EReal) (o : Fin 512 → EReal) (y : Fin 1024 → EReal) (wo : Fin 1536 → Fin 1024 → EReal)
    (g : Fin 1024 → EReal) (wg : Fin 1024 → Fin 5632 → EReal) (wd : Fin 2816 → Fin 1024 → EReal) (r : Fin 512)
    (hx : ∀ k : Fin 1024, v0 (ix2 r k) = x k) (ho : ∀ k : Fin 512, v1 (ix2 r k) = o k) (hy : ∀ k : Fin 1024, v6 (ix2 r k) = y k)
    (hw : ∀ (k : Fin 512) (c : Fin 1024), v2 (ix2 k c) = wo ⟨k, by omega⟩ c)
    (hw' : ∀ (k : Fin 1024) (c : Fin 1024), v7 (ix2 k c) = wo ⟨512 + k, by omega⟩ c)
    (hg : ∀ c : Fin 1024, v11 (ix2 0 c) = g c)
    (h27 : ∀ (k : Fin 1024) (j : Fin 1408), v27 (ix2 k j) = wg k ⟨j, by omega⟩)
    (h30 : ∀ (k : Fin 1024) (j : Fin 1408), v30 (ix2 k j) = wg k ⟨2816 + j, by omega⟩)
    (h45 : ∀ (k : Fin 1024) (j : Fin 1408), v45 (ix2 k j) = wg k ⟨1408 + j, by omega⟩)
    (h48 : ∀ (k : Fin 1024) (j : Fin 1408), v48 (ix2 k j) = wg k ⟨2816 + (1408 + j), by omega⟩)
    (h41 : ∀ (j : Fin 1408) (c : Fin 1024), v41 (ix2 j c) = wd ⟨j, by omega⟩ c)
    (h59 : ∀ (j : Fin 1408) (c : Fin 1024), v59 (ix2 j c) = wd ⟨1408 + j, by omega⟩ c) (c : Fin 1024) :
    k0_pay1 (k0_pay2 v0 v1 v2 v6 v7) (k0_pay3 v0 v1 v2 v6 v7 v11) (k0_pay4 (F := Ideal)) (k0_pay5 v0 v1 v2 v6 v7 v11 v27)
        (k0_pay6 v0 v1 v2 v6 v7 v11 v30) (k0_pay7 (F := Ideal)) v41 v45 v48 v59 (ix2 r c)
      = Row.rowOut x o y wo g wg wd c := by
  have hm := mid_at v0 v1 v2 v6 v7 x o y wo r hx ho hy hw hw'
  have hn := norm_at v0 v1 v2 v6 v7 v11 _ g r hm hg
  refine last_at v45 v48 v41 v59 _ _ _ _ _ _ wg wd r hm hn (fun j => ?_) (fun j => ?_) h45 h48 h41 h59 c
  · pointwise [k0_pay5]
    simp only [hn, h27, Row.proj]
  · pointwise [k0_pay6]
    simp only [hn, h30, Row.proj]

end Cert.Hand.FfnKernel
end
-- ==== Proof.SampleRef.lean ====
/-
  The sample batch's reference: row `r` of its result (time step `r / 128`, sequence `r % 128`) is `Row.rowOut` of row `r`
  of the residual stream and of the two head groups' outputs.
-/
module

public import proofs.«01_k».proof.Proof.Gen.FfnSampleRefIdeal.Read
public import proofs.«01_k».proof.Proof.RowSpec
public import Idealize.ShloMosaic.Lib.Pointwise

@[expose] public section

set_option maxRecDepth 16384

noncomputable section

open Idealize.ShloMosaic Idealize.ShloMosaic.TcCoe Idealize.SL.Sem

namespace Cert.Hand.SampleRef
open Cert.FfnSampleRefIdeal Cert.FfnSampleRefIdeal.Read

variable (x : FVec Ideal S512x1024 .f32) (o : FVec Ideal S512x512 .bf16) (y : FVec Ideal S512x1024 .bf16)
  (wo : FVec Ideal S1536x1024 .f32) (g : FVec Ideal S1024 .f32) (wg : FVec Ideal S1024x5632 .f32)
  (wd : FVec Ideal S2816x1024 .f32)

/-- Row `r` after the output projection. -/
theorem mid_at (r : Fin 512) (c : Fin 1024) : val_main_v4 (F := Ideal) x o y wo (ix2 r c)
    = Row.mid (fun k => x (ix2 r k)) (fun k => o (ix2 r k)) (fun k => y (ix2 r k)) (fun k c => wo (ix2 k c)) c := by
  pointwise [val_main_v4, val_main_v3, val_main_v2, val_main_v1, val_main_v0, Row.mid]

/-- Row `r` after the normalisation. -/
theorem norm_at (r : Fin 512) (c : Fin 1024) : val_main_v17 (F := Ideal) x o y wo g (ix2 r c)
    = Row.norm (fun k => val_main_v4 (F := Ideal) x o y wo (ix2 r k)) (fun k => g (ix1 k)) c := by
  pointwise [val_main_v17, val_main_v16, val_main_v15, val_main_v14, val_main_v13, val_main_v12, val_main_v11, val_main_v10, val_main_v9, val_main_v8, val_main_v7, val_main_v6, val_main_v5, val_main_cst, val_main_cst_0, val_main_cst_1, Row.norm]

/-- The hidden units of row `r`. -/
theorem hidden_at (r : Fin 512) (c : Fin 2816) : val_main_v22 (F := Ideal) x o y wo g wg (ix2 r c)
    = Row.hidden (fun k => val_main_v17 (F := Ideal) x o y wo g (ix2 r k)) (fun k c => wg (ix2 k c)) c := by
  pointwise [val_main_v22, val_main_v21, val_main_v20, val_main_v19, val_main_v18, val_main_call0_v5, val_main_call0_v4, val_main_call0_v3, val_main_call0_v2, val_main_call0_v1, val_main_call0_v0, val_main_call0_cst, val_main_call0_cst_0, Row.hidden, Row.glu, Row.proj]

/-- Row `r` of the result. -/
theorem out_at (r : Fin 512) (c : Fin 1024) : val_main_v24 (F := Ideal) x o y wo g wg wd (ix2 r c)
    = Row.rowOut (fun k => x (ix2 r k)) (fun k => o (ix2 r k)) (fun k => y (ix2 r k)) (fun k c => wo (ix2 k c))
        (fun k => g (ix1 k)) (fun k c => wg (ix2 k c)) (fun k c => wd (ix2 k c)) c := by
  have hm := funext (mid_at x o y wo r)
  have hn := funext (norm_at x o y wo g r)
  have hh := funext (hidden_at x o y wo g wg r)
  pointwise [val_main_v24, val_main_v23, Row.rowOut, Row.ffn]
  rw [hm] at hn
  rw [hn] at hh
  exact congrArg₂ (· + ·) (congrFun hm c) (Finset.sum_congr rfl fun j _ => congrArg (· * wd (ix2 j c)) (congrFun hh j))

end Cert.Hand.SampleRef
end
-- ==== Proof.SampleFinal.lean ====
/-
  The feed-forward kernel on the sample batch. Its 512 rows are one block, and the body on a block is the prompt's, so
  every row is `Row.rowOut` of the same row of the operands (`FfnKernel.body_at`), hence the reference's result.
-/
module

public import proofs.«01_k».proof.Proof.Gen.FfnSampleIdeal.Value
public import proofs.«01_k».proof.Proof.FfnKernel
public import proofs.«01_k».proof.Proof.SampleRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand.SampleFinal
open Cert.FfnSampleIdeal Cert.FfnSampleIdeal.Gen

variable (m : (ℓ : Loc nD τ sig) → Buf (Elt Ideal) ℓ)

/-- There is one grid point, and every window is its whole array there. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The reference's result over the kernel's arguments. -/
abbrev ref (c : Dev nD) : FVec Ideal S512x1024 .f32 :=
  Cert.FfnSampleRefIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What the point stores at row `r`, column `k` is the reference's entry there. -/
theorem point (c : Dev nD) (t : Fin cfg0.N) (r : Fin 512) (k : Fin 1024) :
    out0_7 (iblk m c 0 t) (iblk m c 1 t) (iblk m c 2 t) (iblk m c 3 t) (iblk m c 4 t) (iblk m c 5 t) (iblk m c 6 t) (ix2 r k)
      = ref m c (ix2 r k) := by
  refine Eq.trans ?_ (SampleRef.out_at _ _ _ _ _ _ _ r k).symm
  frame_out
  refine FfnKernel.body_at _ _ _ _ _ _ _ _ _ _ _ _ _ _ _ _ _ _ _ r ?_ ?_ ?_ ?_ ?_ ?_ ?_ ?_ ?_ ?_ ?_ ?_ k
  case refine_6 => intro j; blk_point [iblk, V, idx t]
  all_goals (intros; pointwise; blk_ext [iblk, V, idx t])

/-- The result array after the run is the reference's result. -/
theorem final (c : Dev nD) : (dats m 0 c).arrAt 7 (cfgs 0).N = ref m c := by
  refine (dats m 0 c).arrAt_eq_of_covers 7 _ (by decide +kernel) fun t _ y => ?_
  blk_simp
  rw [after0_7]
  idx_vars y
  refine (point m c t y0 y1).trans (congrArg (ref m c) ?_)
  blk_ext [idx t]

end Cert.Hand.SampleFinal
end
-- ==== Proof.StateSpec.lean ====
/-
  The update of a state-space layer's state over four new steps, one state entry at a time (`entry`), and the same written
  over eight steps of which the last four are padding (`padded`): the padding adds nothing. Sums of finite numbers are
  finite, and a finite number less itself is zero: these are what the kernel's splitting of a number in three parts needs.
-/
module

public import Idealize.ShloMosaic.Lib.Pointwise

@[expose] public section

set_option maxRecDepth 16384

noncomputable section

open Idealize.ShloMosaic Idealize.ShloMosaic.TcCoe Idealize.SL.Sem

namespace Cert.Hand.State

/-- The running sum up to and including position `s`. -/
def acc {n : ℕ} (u : Fin n → EReal) (s : Fin n) : EReal := ∑ j : Fin n, if (j : ℕ) ≤ s then u j else 0

/-- A state entry after four steps: the old entry `h` decayed over all steps, and each step's input `x`, scaled by the step
    size `d` and decayed over the steps behind it, times the step's key entry `b`. The decay's exponent of a step is its size
    times the head's rate `a`. -/
def entry (h : EReal) (d x b : Fin 4 → EReal) (a : EReal) : EReal :=
  h * Ideal.exp (acc (fun s => d s * a) 3)
    + ∑ s, x s * d s * Ideal.exp (acc (fun s => d s * a) 3 - acc (fun s => d s * a) s) * b s

/-- The same over eight steps. -/
def padded (h : EReal) (d x b : Fin 8 → EReal) (a : EReal) : EReal :=
  h * Ideal.exp (acc (fun s => d s * a) 7)
    + ∑ s, x s * d s * Ideal.exp (acc (fun s => d s * a) 7 - acc (fun s => d s * a) s) * b s

/-- Four numbers followed by four zeros. -/
def pad8 (u : Fin 4 → EReal) (s : Fin 8) : EReal := if h : (s : ℕ) < 4 then u ⟨s, h⟩ else 0

/-- The padding adds nothing. -/
theorem padded_eq (h : EReal) (d x : Fin 4 → EReal) (b : Fin 8 → EReal) (a : EReal) :
    padded h (pad8 d) (pad8 x) b a = entry h d x (fun s => b ⟨s, by omega⟩) a := by
  unfold padded entry acc pad8
  simp [Fin.sum_univ_eight, Fin.sum_univ_four]

/-- A finite number. -/
def IsReal (x : EReal) : Prop := ∃ r : ℝ, x = r

theorem IsReal.zero : IsReal 0 := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.negExp {x : EReal} (hx : x ≠ ⊤) : IsReal (-Ideal.exp x) := by
  induction x using EReal.rec with
  | bot => exact ⟨0, neg_zero⟩
  | coe a => exact ⟨-Real.exp a, rfl⟩
  | top => exact absurd rfl hx

theorem IsReal.acc {n : ℕ} {u : Fin n → EReal} (hu : ∀ j, IsReal (u j)) (s : Fin n) : IsReal (acc u s) := by
  unfold State.acc
  refine Finset.sum_induction _ IsReal (fun _ _ => IsReal.add) IsReal.zero fun j _ => ?_
  split
  · exact hu j
  · exact IsReal.zero

theorem IsReal.sub_self {x : EReal} (hx : IsReal x) : x - x = 0 := by
  obtain ⟨a, rfl⟩ := hx
  exact EReal.sub_self (EReal.coe_ne_top a) (EReal.coe_ne_bot a)

theorem IsReal.pad8 {u : Fin 4 → EReal} (hu : ∀ j, IsReal (u j)) (s : Fin 8) : IsReal (pad8 u s) := by
  unfold State.pad8
  split
  · exact hu _
  · exact IsReal.zero

/-- A sum of products of a number split in three parts, where only the real numbers' factors count: the first part's sum. -/
theorem three {n : ℕ} {v e : Fin n → EReal} (hv : ∀ j, IsReal (v j) ∨ e j = 0) :
    ∑ j, v j * e j + ∑ j, (v j - v j) * e j + ∑ j, (v j - v j - (v j - v j)) * e j = ∑ j, v j * e j := by
  have h1 : ∀ j, (v j - v j) * e j = 0 := fun j => (hv j).elim (fun h => by rw [h.sub_self, zero_mul]) fun h => by rw [h, mul_zero]
  have h2 : ∀ j, (v j - v j - (v j - v j)) * e j = 0 := fun j =>
    (hv j).elim (fun h => by rw [h.sub_self, sub_zero, zero_mul]) fun h => by rw [h, mul_zero]
  simp only [h1, h2, Finset.sum_const_zero, add_zero]

/-- The same with the column on the left. -/
theorem three' {n : ℕ} {v : Fin n → EReal} (hv : ∀ j, IsReal (v j)) (e : Fin n → EReal) :
    ∑ j, e j * v j + ∑ j, e j * (v j - v j) + ∑ j, e j * (v j - v j - (v j - v j)) = ∑ j, e j * v j := by
  have h0 : ∀ j, v j - v j = 0 := fun j => (hv j).sub_self
  simp [h0]

end Cert.Hand.State
end
-- ==== Proof.StateKernel.lean ====
/-
  The state-update kernel's arithmetic for one sequence, read at an index: the running sums of the decay exponents (`acum_at`),
  the same and the step sizes widened to the 1024 columns (`wide_at`, `input_at`), and each step's scaled input (`xw_at`).
  The kernel splits a number in three parts before a matrix product; a finite number's second and third part are zero.
-/
module

public import proofs.«01_k».proof.Proof.Gen.StateIdeal.Skeleton
public import proofs.«01_k».proof.Proof.StateSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.StateKernel
open Cert.StateIdeal Cert.StateIdeal.Gen Cert.Hand.State

/-- The rates: minus the exponential of their logarithms. -/
theorem rate_at (v0 : Vec Ideal S1x128 .f32) (l : Fin 128) : k0_pay1 v0 (ix2 (0 : Fin 1) l) = -Ideal.exp (v0 (ix2 (0 : Fin 1) l)) := by
  pointwise [k0_pay1]
  rw [sub_eq_add_neg, zero_add]

/-- The triangle sums up to its row. -/
theorem tri_sum (u : Fin 8 → EReal) (s : Fin 8) : ∑ j : Fin 8, (if (j : ℕ) ≤ s then (1 : EReal) else 0) * u j = acc u s := by
  unfold acc
  refine Finset.sum_congr rfl fun j _ => ?_
  split
  · exact one_mul _
  · exact zero_mul _

/-- The running sums of the decay exponents. -/
theorem acum_at (v4 : FVec Ideal S1x128 .f32) (v6 : FVec Ideal S8x8 .bf16) (v12 : Vec Ideal S1x8x128 .f32)
    (h6 : ∀ s j : Fin 8, v6 (ix2 s j) = if (j : ℕ) ≤ s then 1 else 0) (l : Fin 128)
    (hr : ∀ s : Fin 8, IsReal (v12 (ix3 (0 : Fin 1) s l) * v4 (ix2 (0 : Fin 1) l))) (s : Fin 8) :
    k0_pay6 v4 v6 v12 (ix2 s l) = acc (fun j => v12 (ix3 (0 : Fin 1) j l) * v4 (ix2 (0 : Fin 1) l)) s := by
  rw [← tri_sum]
  simp only [← h6]
  rw [← three' hr]
  pointwise [k0_pay6, k0_pay5]

/-- A sum over the 128 lanes against the head-to-column matrix picks the column's head. -/
theorem head_sum (u : Fin 128 → EReal) (c : Fin 1024) :
    ∑ l : Fin 128, u l * (if (l : ℕ) = (c : ℕ) / 64 then (1 : EReal) else 0) = u ⟨(c : ℕ) / 64, by omega⟩ := by
  rw [Finset.sum_eq_single (⟨(c : ℕ) / 64, by omega⟩ : Fin 128)]
  · rw [if_pos rfl, mul_one]
  · intro l _ hl
    rw [if_neg fun h => hl (Fin.ext h), mul_zero]
  · exact fun h => absurd (Finset.mem_univ _) h

/-- Of a column's products only its head's counts, and the heads are the first sixteen lanes. -/
theorem heads {v8 : FVec Ideal S128x1024 .bf16} (h8 : ∀ (l : Fin 128) (c : Fin 1024), v8 (ix2 l c) = if (l : ℕ) = (c : ℕ) / 64 then 1 else 0)
    {u : Fin 128 → EReal} (hr : ∀ l : Fin 128, (l : ℕ) < 16 → IsReal (u l)) (l : Fin 128) (c : Fin 1024) : IsReal (u l) ∨ v8 (ix2 l c) = 0 := by
  rcases lt_or_ge (l : ℕ) 16 with h | h
  · exact .inl (hr l h)
  · exact .inr (by rw [h8, if_neg (by omega)])

/-- The running sums widened: column `c` holds its head's. -/
theorem wide_at (v4 : FVec Ideal S1x128 .f32) (v6 : FVec Ideal S8x8 .bf16) (v8 : FVec Ideal S128x1024 .bf16) (v12 : Vec Ideal S1x8x128 .f32)
    (h8 : ∀ (l : Fin 128) (c : Fin 1024), v8 (ix2 l c) = if (l : ℕ) = (c : ℕ) / 64 then 1 else 0) (s : Fin 8)
    (hr : ∀ l : Fin 128, (l : ℕ) < 16 → IsReal (k0_pay6 v4 v6 v12 (ix2 s l))) (c : Fin 1024) :
    k0_pay7 v4 v6 v8 v12 (ix2 s c) = k0_pay6 v4 v6 v12 (ix2 s (⟨(c : ℕ) / 64, by omega⟩ : Fin 128)) := by
  refine Eq.trans ?_ (head_sum (fun l => k0_pay6 v4 v6 v12 (ix2 s l)) c)
  simp only [← h8]
  rw [← three fun l => heads h8 hr l c]
  unfold k0_pay7
  generalize k0_pay6 v4 v6 v12 = w
  pointwise

/-- The inputs scaled by their step sizes. -/
theorem input_at (v8 : FVec Ideal S128x1024 .bf16) (v12 : Vec Ideal S1x8x128 .f32) (v41 : Vec Ideal S1x8x1024 .f32)
    (h8 : ∀ (l : Fin 128) (c : Fin 1024), v8 (ix2 l c) = if (l : ℕ) = (c : ℕ) / 64 then 1 else 0) (s : Fin 8)
    (hr : ∀ l : Fin 128, (l : ℕ) < 16 → IsReal (v12 (ix3 (0 : Fin 1) s l))) (c : Fin 1024) :
    k0_pay9 v8 v12 v41 (ix2 s c) = v41 (ix3 (0 : Fin 1) s c) * v12 (ix3 (0 : Fin 1) s (⟨(c : ℕ) / 64, by omega⟩ : Fin 128)) := by
  rw [← head_sum (fun l => v12 (ix3 (0 : Fin 1) s l)) c]
  simp only [← h8]
  rw [← three fun l => heads h8 hr l c]
  pointwise [k0_pay9, k0_pay8, k0_pay5]

/-- The inputs decayed over the steps behind them. -/
theorem xw_at (v39 v55 : FVec Ideal S8x1024 .f32) (v56 : FVec Ideal S1x1024 .f32) (s : Fin 8) (c : Fin 1024) :
    k0_pay11 v39 v55 v56 (ix2 s c) = v55 (ix2 s c) * Ideal.exp (v56 (ix2 (0 : Fin 1) c) - v39 (ix2 s c)) := by
  pointwise [k0_pay11]

/-- The last running sums. -/
theorem end_at (v4 : FVec Ideal S1x128 .f32) (v6 : FVec Ideal S8x8 .bf16) (v8 : FVec Ideal S128x1024 .bf16) (v12 : Vec Ideal S1x8x128 .f32)
    (c : Fin 1024) : k0_pay10 v4 v6 v8 v12 (ix2 (0 : Fin 1) c) = k0_pay7 v4 v6 v8 v12 (ix2 (7 : Fin 8) c) := by
  unfold k0_pay10
  generalize k0_pay7 v4 v6 v8 v12 = w
  pointwise

/-- The decays over all steps, a head a row. -/
theorem decay_at (v27 : FVec Ideal S8x128 .f32) (h n : Fin 128) : k0_pay13 v27 (ix2 h n) = Ideal.exp (v27 (ix2 (7 : Fin 8) h)) := by
  pointwise [k0_pay13]

/-- The first group's sums of outer products. -/
theorem outer0_at (v61 : FVec Ideal S8x1024 .bf16) (v69 : Vec Ideal S1x8x512 .bf16) (r : Fin 512) (n : Fin 128) :
    k0_pay27 v61 (k0_pay16 v69) (ix2 r n)
      = ∑ s : Fin 8, v61 (ix2 s (⟨r, by omega⟩ : Fin 1024)) * v69 (ix3 (0 : Fin 1) s (⟨n, by omega⟩ : Fin 512)) := by
  pointwise [k0_pay27, k0_pay16, k0_pay14]

/-- The second group's. -/
theorem outer1_at (v61 : FVec Ideal S8x1024 .bf16) (v69 : Vec Ideal S1x8x512 .bf16) (r : Fin 512) (n : Fin 128) :
    k0_pay49 v61 (k0_pay40 (k0_pay14 v69)) (ix2 r n)
      = ∑ s : Fin 8, v61 (ix2 s (⟨512 + r, by omega⟩ : Fin 1024)) * v69 (ix3 (0 : Fin 1) s (⟨128 + n, by omega⟩ : Fin 512)) := by
  pointwise [k0_pay49, k0_pay40, k0_pay14]

end Cert.Hand.StateKernel
end
-- ==== Proof.StateStore.lean ====
/-
  The sixteen values the state-update kernel stores for a sequence, one per head, read at an entry: the loaded old entry
  times the head's decay, plus the entry of the group's sums of outer products (`store_h`, `h` the head).
-/
module

public import proofs.«01_k».proof.Proof.Gen.StateIdeal.Skeleton
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.StateStore
open Cert.StateIdeal Cert.StateIdeal.Gen

variable (w : FVec Ideal S128x128 .f32) (D : FVec Ideal S512x128 .f32) (x : FVec Ideal S8x1024 .bf16) (b : FVec Ideal S8x128 .bf16)
  (h : Vec Ideal S1x1x64x128 .f32) (p : Fin 64) (n : Fin 128)

/-- An old entry times its head's decay plus the new part. -/
def kept (w : FVec Ideal S128x128 .f32) (D : FVec Ideal S512x128 .f32) (h : Vec Ideal S1x1x64x128 .f32) (g : Fin 128) (r : Fin 512)
    (p : Fin 64) (n : Fin 128) : EReal := h (ix4 (0 : Fin 1) (0 : Fin 1) p n) * w (ix2 g n) + D (ix2 r n)

theorem store_0 : k0_pay28 x w b h (ix4 (0 : Fin 1) (0 : Fin 1) p n) = kept w (k0_pay27 x b) h 0 ⟨0 + p, by omega⟩ p n := by
  unfold k0_pay28 kept
  generalize k0_pay27 x b = D
  pointwise

theorem store_1 : k0_pay29 w D h (ix4 (0 : Fin 1) (0 : Fin 1) p n) = kept w D h 1 ⟨64 + p, by omega⟩ p n := by
  pointwise [k0_pay29, kept]

theorem store_2 : k0_pay30 w D h (ix4 (0 : Fin 1) (0 : Fin 1) p n) = kept w D h 2 ⟨128 + p, by omega⟩ p n := by
  pointwise [k0_pay30, kept]

theorem store_3 : k0_pay31 w D h (ix4 (0 : Fin 1) (0 : Fin 1) p n) = kept w D h 3 ⟨192 + p, by omega⟩ p n := by
  pointwise [k0_pay31, kept]

theorem store_4 : k0_pay34 D (k0_pay32 h) (k0_pay33 w) (ix4 (0 : Fin 1) (0 : Fin 1) p n) = kept w D h 4 ⟨256 + p, by omega⟩ p n := by
  pointwise [k0_pay34, k0_pay32, k0_pay33, kept]

theorem store_5 : k0_pay35 w D h (ix4 (0 : Fin 1) (0 : Fin 1) p n) = kept w D h 5 ⟨320 + p, by omega⟩ p n := by
  pointwise [k0_pay35, kept]

theorem store_6 : k0_pay36 w D h (ix4 (0 : Fin 1) (0 : Fin 1) p n) = kept w D h 6 ⟨384 + p, by omega⟩ p n := by
  pointwise [k0_pay36, kept]

theorem store_7 : k0_pay39 (k0_pay37 w h) (k0_pay38 D) (ix4 (0 : Fin 1) (0 : Fin 1) p n) = kept w D h 7 ⟨448 + p, by omega⟩ p n := by
  pointwise [k0_pay39, k0_pay37, k0_pay38, kept]

theorem store_8 : k0_pay50 x w b h (ix4 (0 : Fin 1) (0 : Fin 1) p n) = kept w (k0_pay49 x b) h 8 ⟨0 + p, by omega⟩ p n := by
  unfold k0_pay50 kept
  generalize k0_pay49 x b = D
  pointwise

theorem store_9 : k0_pay52 (k0_pay51 x w b h) (ix4 (0 : Fin 1) (0 : Fin 1) p n) = kept w (k0_pay49 x b) h 9 ⟨64 + p, by omega⟩ p n := by
  unfold k0_pay52 k0_pay51 kept
  generalize k0_pay49 x b = D
  pointwise

theorem store_10 : k0_pay53 w D h (ix4 (0 : Fin 1) (0 : Fin 1) p n) = kept w D h 10 ⟨128 + p, by omega⟩ p n := by
  pointwise [k0_pay53, kept]

theorem store_11 : k0_pay54 w D h (ix4 (0 : Fin 1) (0 : Fin 1) p n) = kept w D h 11 ⟨192 + p, by omega⟩ p n := by
  pointwise [k0_pay54, kept]

theorem store_12 : k0_pay55 w D h (ix4 (0 : Fin 1) (0 : Fin 1) p n) = kept w D h 12 ⟨256 + p, by omega⟩ p n := by
  pointwise [k0_pay55, kept]

theorem store_13 : k0_pay56 w D h (ix4 (0 : Fin 1) (0 : Fin 1) p n) = kept w D h 13 ⟨320 + p, by omega⟩ p n := by
  pointwise [k0_pay56, kept]

theorem store_14 : k0_pay57 w D h (ix4 (0 : Fin 1) (0 : Fin 1) p n) = kept w D h 14 ⟨384 + p, by omega⟩ p n := by
  pointwise [k0_pay57, kept]

theorem store_15 : k0_pay4 (k0_pay58 w D h) (ix4 (0 : Fin 1) (0 : Fin 1) p n) = kept w D h 15 ⟨7*64 + p, by omega⟩ p n := by
  pointwise [k0_pay4, k0_pay58, kept]

end Cert.Hand.StateStore
end
-- ==== Proof.StateTrip.lean ====
/-
  The state-update kernel's new state of one sequence: each entry it stores is the entry after eight padded steps (`first` for the
  first group's heads, `second` for the second's).
-/
module

public import proofs.«01_k».proof.Proof.StateKernel
public import proofs.«01_k».proof.Proof.StateStore

@[expose] public section

set_option maxRecDepth 16384

noncomputable section

open Idealize.ShloMosaic Idealize.ShloMosaic.TcCoe Idealize.SL.Sem

namespace Cert.Hand.StateTrip
open Cert.StateIdeal Cert.StateIdeal.Gen Cert.Hand.State Cert.Hand.StateKernel Cert.Hand.StateStore

variable (v0 : Vec Ideal S1x128 .f32) (v5 : Vec Ideal S8x8 .bf16) (v7 : Vec Ideal S128x1024 .bf16)
  (T : Vec Ideal S1x8x128 .f32) (X : Vec Ideal S1x8x1024 .f32) (B : Vec Ideal S1x8x512 .bf16)

/-- The decays over all steps. -/
abbrev decays : FVec Ideal S128x128 .f32 := k0_pay13 (k0_pay6 (k0_pay1 v0) (k0_pay2 v5) T)

/-- The inputs, scaled and decayed. -/
abbrev inputs : FVec Ideal S8x1024 .bf16 :=
  k0_pay11 (k0_pay7 (k0_pay1 v0) (k0_pay2 v5) (k0_pay3 v7) T) (k0_pay9 (k0_pay3 v7) T X) (k0_pay10 (k0_pay1 v0) (k0_pay2 v5) (k0_pay3 v7) T)

theorem tri_at (h5 : ∀ s j : Fin 8, v5 (ix2 s j) = if (j : ℕ) ≤ s then 1 else 0) (s j : Fin 8) :
    k0_pay2 v5 (ix2 s j) = if (j : ℕ) ≤ s then 1 else 0 := by
  rw [← h5]
  pointwise [k0_pay2]

theorem expand_at (h7 : ∀ (l : Fin 128) (c : Fin 1024), v7 (ix2 l c) = if (l : ℕ) = (c : ℕ) / 64 then 1 else 0) (l : Fin 128) (c : Fin 1024) :
    k0_pay3 v7 (ix2 l c) = if (l : ℕ) = (c : ℕ) / 64 then 1 else 0 := by
  rw [← h7]
  pointwise [k0_pay3]

variable (h5 : ∀ s j : Fin 8, v5 (ix2 s j) = if (j : ℕ) ≤ s then 1 else 0)
  (h7 : ∀ (l : Fin 128) (c : Fin 1024), v7 (ix2 l c) = if (l : ℕ) = (c : ℕ) / 64 then 1 else 0)
  (hT : ∀ (s : Fin 8) (l : Fin 128), (l : ℕ) < 16 → IsReal (T (ix3 (0 : Fin 1) s l)))
  (h0 : ∀ l : Fin 128, (l : ℕ) < 16 → v0 (ix2 (0 : Fin 1) l) ≠ ⊤)

/-- The decay exponent of a head's step. -/
abbrev step (l : Fin 128) (s : Fin 8) : EReal := T (ix3 (0 : Fin 1) s l) * -Ideal.exp (v0 (ix2 (0 : Fin 1) l))

include h0 hT in
theorem step_real (l : Fin 128) (hl : (l : ℕ) < 16) (s : Fin 8) : IsReal (step v0 T l s) := (hT s l hl).mul (IsReal.negExp (h0 l hl))

include h5 h0 hT in
/-- A head's running sums. -/
theorem sums_at (l : Fin 128) (hl : (l : ℕ) < 16) (s : Fin 8) : k0_pay6 (k0_pay1 v0) (k0_pay2 v5) T (ix2 s l) = acc (step v0 T l) s := by
  have h := acum_at (k0_pay1 v0) (k0_pay2 v5) T (tri_at v5 h5) l
    (fun s => by rw [rate_at]; exact step_real v0 T hT h0 l hl s) s
  simp only [rate_at] at h
  exact h

include h5 h7 h0 hT in
/-- A column's running sums are its head's. -/
theorem column_at (c : Fin 1024) (g : Fin 128) (hg : (c : ℕ) / 64 = g) (s : Fin 8) :
    k0_pay7 (k0_pay1 v0) (k0_pay2 v5) (k0_pay3 v7) T (ix2 s c) = acc (step v0 T g) s := by
  rw [wide_at (k0_pay1 v0) (k0_pay2 v5) (k0_pay3 v7) T (expand_at v7 h7) s
    (fun l hl => by rw [sums_at v0 v5 T h5 hT h0 l hl]; exact IsReal.acc (step_real v0 T hT h0 l hl) s) c,
    show (⟨(c : ℕ) / 64, by omega⟩ : Fin 128) = g from Fin.ext hg]
  exact sums_at v0 v5 T h5 hT h0 g (by omega) s

include h5 h7 h0 hT in
/-- A column's input of a step. -/
theorem inputs_at (c : Fin 1024) (g : Fin 128) (hg : (c : ℕ) / 64 = g) (s : Fin 8) :
    inputs v0 v5 v7 T X (ix2 s c) = X (ix3 (0 : Fin 1) s c) * T (ix3 (0 : Fin 1) s g) * Ideal.exp (acc (step v0 T g) 7 - acc (step v0 T g) s) := by
  unfold inputs
  rw [xw_at, end_at, column_at v0 v5 v7 T h5 h7 hT h0 c g hg, column_at v0 v5 v7 T h5 h7 hT h0 c g hg,
    input_at (k0_pay3 v7) T X (expand_at v7 h7) s (fun l hl => hT s l hl) c, show (⟨(c : ℕ) / 64, by omega⟩ : Fin 128) = g from Fin.ext hg]

/-- An entry after the eight padded steps. -/
abbrev next (H : EReal) (g : Fin 128) (c : Fin 1024) (n : Fin 512) : EReal :=
  padded H (fun s => T (ix3 (0 : Fin 1) s g)) (fun s => X (ix3 (0 : Fin 1) s c)) (fun s => B (ix3 (0 : Fin 1) s n)) (-Ideal.exp (v0 (ix2 (0 : Fin 1) g)))

include h5 h7 h0 hT in
/-- The entries of the first group's heads. -/
theorem first (H : Vec Ideal S1x1x64x128 .f32) (g : Fin 128) (r : Fin 512) (p : Fin 64) (n : Fin 128) (hr : (r : ℕ) = g * 64 + p)
    (c : Fin 1024) (hc : (c : ℕ) = 64 * g + p) (e : Fin 512) (he : (e : ℕ) = n) :
    kept (decays v0 v5 T) (k0_pay27 (inputs v0 v5 v7 T X) (k0_pay16 B)) H g r p n = next v0 T X B (H (ix4 (0 : Fin 1) (0 : Fin 1) p n)) g c e := by
  have hg : (g : ℕ) < 16 := by omega
  unfold kept decays next padded
  rw [decay_at, sums_at v0 v5 T h5 hT h0 g hg, outer0_at]
  refine congrArg _ (Finset.sum_congr rfl fun s _ => ?_)
  rw [inputs_at v0 v5 v7 T X h5 h7 hT h0 _ g (by dsimp only; omega) s, show (⟨r, by omega⟩ : Fin 1024) = c from Fin.ext (by dsimp only; omega),
    show (⟨n, by omega⟩ : Fin 512) = e from Fin.ext he.symm]

include h5 h7 h0 hT in
/-- The entries of the second group's heads. -/
theorem second (H : Vec Ideal S1x1x64x128 .f32) (g : Fin 128) (r : Fin 512) (p : Fin 64) (n : Fin 128) (hr : 512 + (r : ℕ) = g * 64 + p)
    (c : Fin 1024) (hc : (c : ℕ) = 64 * g + p) (e : Fin 512) (he : (e : ℕ) = 128 + n) :
    kept (decays v0 v5 T) (k0_pay49 (inputs v0 v5 v7 T X) (k0_pay40 (k0_pay14 B))) H g r p n
      = next v0 T X B (H (ix4 (0 : Fin 1) (0 : Fin 1) p n)) g c e := by
  have hg : (g : ℕ) < 16 := by omega
  unfold kept decays next padded
  rw [decay_at, sums_at v0 v5 T h5 hT h0 g hg, outer1_at]
  refine congrArg _ (Finset.sum_congr rfl fun s _ => ?_)
  rw [inputs_at v0 v5 v7 T X h5 h7 hT h0 _ g (by dsimp only; omega) s, show (⟨512 + r, by omega⟩ : Fin 1024) = c from Fin.ext (by dsimp only; omega),
    show (⟨128 + n, by omega⟩ : Fin 512) = e from Fin.ext he.symm]

end Cert.Hand.StateTrip
end
-- ==== Proof.StateBlock.lean ====
/-
  What one grid point of the state-update kernel leaves in its block of the new state: a loop over its eight sequences, each
  storing its sixteen heads' entries after the steps (`block`).
-/
module

public import proofs.«01_k».proof.Proof.Gen.StateIdeal.Value
public import proofs.«01_k».proof.Proof.StateTrip
public import Idealize.ShloMosaic.Lib.Writes
public import Idealize.ShloMosaic.Lib.WholeRead

@[expose] public section

set_option maxRecDepth 16384

noncomputable section

open Idealize.ShloMosaic Idealize.ShloMosaic.TcCoe Idealize.SL.Sem

namespace Cert.Hand.StateBlock
open Cert.StateIdeal Cert.StateIdeal.Gen Cert.Hand.State Cert.Hand.StateStore Cert.Hand.StateTrip

/-- The new state's entry of sequence `k`, head `h`, in terms of a grid point's blocks. -/
def entryAt (x0 : Vec Ideal S8x8x1024 .f32) (x1 : Vec Ideal S8x8x512 .bf16) (x2 : Vec Ideal S8x8x128 .f32) (x4 : Vec Ideal S8x16x64x128 .f32)
    (x5 : Vec Ideal S1x128 .f32) (k : Fin 8) (h : Fin 16) (p : Fin 64) (n : Fin 128) : EReal :=
  padded (x4 (ix4 k h p n)) (fun s => x2 (ix3 k s (⟨h, by omega⟩ : Fin 128))) (fun s => x0 (ix3 k s (⟨64 * h + p, by omega⟩ : Fin 1024)))
    (fun s => x1 (ix3 k s (⟨128 * ((h : ℕ) / 8) + n, by omega⟩ : Fin 512))) (-Ideal.exp (x5 (ix2 (0 : Fin 1) (⟨h, by omega⟩ : Fin 128))))

/-- The block as a function of its index. -/
def G (x0 : Vec Ideal S8x8x1024 .f32) (x1 : Vec Ideal S8x8x512 .bf16) (x2 : Vec Ideal S8x8x128 .f32) (x4 : Vec Ideal S8x16x64x128 .f32)
    (x5 : Vec Ideal S1x128 .f32) (y : S8x16x64x128.Idx) : EReal := entryAt x0 x1 x2 x4 x5 (y 0) (y 1) (y 2) (y 3)

/-- The loop's trips are the eight sequences. -/
def seq (k : Fin k0_t1_loop.trips) : Fin 8 := ⟨k.val, Nat.lt_of_lt_of_le k.isLt k0_t1_abs.2.1⟩

theorem off1_eq : ∀ k : Fin k0_t1_loop.trips, k0_off1 k = ![k.val, 0, 0] := by decide +kernel
theorem off2_eq : ∀ k : Fin k0_t1_loop.trips, k0_off2 k = ![k.val, 0, 0] := by decide +kernel
theorem off3_eq : ∀ k : Fin k0_t1_loop.trips, k0_off3 k = ![k.val, 0, 0] := by decide +kernel
theorem off6_eq : ∀ k : Fin k0_t1_loop.trips, k0_off6 k = ![k.val, 0, 0, 0] := by decide +kernel
theorem off7_eq : ∀ k : Fin k0_t1_loop.trips, k0_off7 k = ![k.val, 1, 0, 0] := by decide +kernel
theorem off8_eq : ∀ k : Fin k0_t1_loop.trips, k0_off8 k = ![k.val, 2, 0, 0] := by decide +kernel
theorem off9_eq : ∀ k : Fin k0_t1_loop.trips, k0_off9 k = ![k.val, 3, 0, 0] := by decide +kernel
theorem off10_eq : ∀ k : Fin k0_t1_loop.trips, k0_off10 k = ![k.val, 4, 0, 0] := by decide +kernel
theorem off11_eq : ∀ k : Fin k0_t1_loop.trips, k0_off11 k = ![k.val, 5, 0, 0] := by decide +kernel
theorem off12_eq : ∀ k : Fin k0_t1_loop.trips, k0_off12 k = ![k.val, 6, 0, 0] := by decide +kernel
theorem off13_eq : ∀ k : Fin k0_t1_loop.trips, k0_off13 k = ![k.val, 7, 0, 0] := by decide +kernel
theorem off16_eq : ∀ k : Fin k0_t1_loop.trips, k0_off16 k = ![k.val, 8, 0, 0] := by decide +kernel
theorem off17_eq : ∀ k : Fin k0_t1_loop.trips, k0_off17 k = ![k.val, 9, 0, 0] := by decide +kernel
theorem off18_eq : ∀ k : Fin k0_t1_loop.trips, k0_off18 k = ![k.val, 10, 0, 0] := by decide +kernel
theorem off19_eq : ∀ k : Fin k0_t1_loop.trips, k0_off19 k = ![k.val, 11, 0, 0] := by decide +kernel
theorem off20_eq : ∀ k : Fin k0_t1_loop.trips, k0_off20 k = ![k.val, 12, 0, 0] := by decide +kernel
theorem off21_eq : ∀ k : Fin k0_t1_loop.trips, k0_off21 k = ![k.val, 13, 0, 0] := by decide +kernel
theorem off22_eq : ∀ k : Fin k0_t1_loop.trips, k0_off22 k = ![k.val, 14, 0, 0] := by decide +kernel
theorem off23_eq : ∀ k : Fin k0_t1_loop.trips, k0_off23 k = ![k.val, 15, 0, 0] := by decide +kernel

/-- A sequence's rows of a block of rows. -/
theorem row_emb {w : ℕ} (off : Fin 3 → ℕ) (inb : ∀ a, off a + (![1, 8, w] : Fin 3 → ℕ) a ≤ (⟨3, ![8, 8, w]⟩ : Shape).size a) (k : Fin 8)
    (h : off = ![k.val, 0, 0]) (z : Fin 1) (s : Fin 8) (l : Fin w) :
    (Rect.unit (s := ⟨3, ![8, 8, w]⟩) off ![1, 8, w] inb).emb (ix3 z s l) = ix3 k s l := by
  subst h
  funext a
  refine Fin.ext ?_
  rw [ValueKit.rect_emb_unit_val]
  fin_cases a
  · show (k : ℕ) + (z : ℕ) = k; omega
  · show 0 + (s : ℕ) = s; omega
  · show 0 + (l : ℕ) = l; omega

/-- A head's entries of a block of states. -/
theorem head_emb (off : Fin 4 → ℕ) (inb : ∀ a, off a + (![1, 1, 64, 128] : Fin 4 → ℕ) a ≤ S8x16x64x128.size a) (k : Fin 8) (g : Fin 16)
    (h : off = ![k.val, g.val, 0, 0]) (z0 z1 : Fin 1) (p : Fin 64) (n : Fin 128) :
    (Rect.unit (s := S8x16x64x128) off ![1, 1, 64, 128] inb).emb (ix4 z0 z1 p n) = ix4 k g p n := by
  subst h
  funext a
  refine Fin.ext ?_
  rw [ValueKit.rect_emb_unit_val]
  fin_cases a
  · show (k : ℕ) + (z0 : ℕ) = k; omega
  · show (g : ℕ) + (z1 : ℕ) = g; omega
  · show 0 + (p : ℕ) = p; omega
  · show 0 + (n : ℕ) = n; omega

/-- A matrix' whole rectangle embeds identically. -/
theorem whole {a b : ℕ} (off : Fin 2 → ℕ) (inb : ∀ x, off x + (![a, b] : Fin 2 → ℕ) x ≤ (⟨2, ![a, b]⟩ : Shape).size x)
    (z : (⟨2, ![a, b]⟩ : Shape).Idx) : (Rect.unit (s := ⟨2, ![a, b]⟩) off ![a, b] inb).emb z = z := by
  funext x
  refine Fin.ext ?_
  rw [ValueKit.rect_emb_unit_val]
  have := inb x
  fin_cases x
  · have h : off 0 + a ≤ a := inb 0
    show off 0 + (z 0 : ℕ) = z 0
    omega
  · have h : off 1 + b ≤ b := inb 1
    show off 1 + (z 1 : ℕ) = z 1
    omega

variable (x0 : Vec Ideal S8x8x1024 .f32) (x1 : Vec Ideal S8x8x512 .bf16) (x2 : Vec Ideal S8x8x128 .f32) (x4 : Vec Ideal S8x16x64x128 .f32)
  (x5 : Vec Ideal S1x128 .f32) (x8 : Vec Ideal S8x8 .bf16) (x9 : Vec Ideal S128x1024 .bf16)
  (h8 : ∀ s j : Fin 8, x8 (ix2 s j) = if (j : ℕ) ≤ s then 1 else 0)
  (h9 : ∀ (l : Fin 128) (c : Fin 1024), x9 (ix2 l c) = if (l : ℕ) = (c : ℕ) / 64 then 1 else 0)
  (h2 : ∀ (k s : Fin 8) (l : Fin 128), (l : ℕ) < 16 → IsReal (x2 (ix3 k s l)))
  (h5 : ∀ l : Fin 128, (l : ℕ) < 16 → x5 (ix2 (0 : Fin 1) l) ≠ ⊤)

include h8 h9 h2 h5 in
/-- A head of the first group: what is stored is the block's entry. -/
theorem low (k : Fin 8) (T : Vec Ideal S1x8x128 .f32) (X : Vec Ideal S1x8x1024 .f32) (B : Vec Ideal S1x8x512 .bf16) (H : Vec Ideal S1x1x64x128 .f32)
    (hT : ∀ (s : Fin 8) (l : Fin 128), T (ix3 (0 : Fin 1) s l) = x2 (ix3 k s l)) (hX : ∀ (s : Fin 8) (l : Fin 1024), X (ix3 (0 : Fin 1) s l) = x0 (ix3 k s l))
    (hB : ∀ (s : Fin 8) (l : Fin 512), B (ix3 (0 : Fin 1) s l) = x1 (ix3 k s l)) (h : Fin 16) (hh : (h : ℕ) < 8)
    (hH : ∀ (p : Fin 64) (n : Fin 128), H (ix4 (0 : Fin 1) (0 : Fin 1) p n) = x4 (ix4 k h p n)) (g : Fin 128) (hg : (g : ℕ) = h)
    (r : Fin 512) (p : Fin 64) (n : Fin 128) (hr : (r : ℕ) = h * 64 + p) :
    kept (decays x5 x8 T) (k0_pay27 (inputs x5 x8 x9 T X) (k0_pay16 B)) H g r p n = entryAt x0 x1 x2 x4 x5 k h p n := by
  have hg' : g = ⟨h, by omega⟩ := Fin.ext hg
  rw [first x5 x8 x9 T X B h8 h9 (fun s l hl => by rw [hT]; exact h2 k s l hl) h5 H g r p n (by omega) ⟨64 * h + p, by omega⟩ (by dsimp only; omega)
    ⟨128 * ((h : ℕ) / 8) + n, by omega⟩ (by dsimp only; omega)]
  unfold next entryAt
  simp only [hT, hX, hB, hH, hg']

include h8 h9 h2 h5 in
/-- A head of the second group. -/
theorem high (k : Fin 8) (T : Vec Ideal S1x8x128 .f32) (X : Vec Ideal S1x8x1024 .f32) (B : Vec Ideal S1x8x512 .bf16) (H : Vec Ideal S1x1x64x128 .f32)
    (hT : ∀ (s : Fin 8) (l : Fin 128), T (ix3 (0 : Fin 1) s l) = x2 (ix3 k s l)) (hX : ∀ (s : Fin 8) (l : Fin 1024), X (ix3 (0 : Fin 1) s l) = x0 (ix3 k s l))
    (hB : ∀ (s : Fin 8) (l : Fin 512), B (ix3 (0 : Fin 1) s l) = x1 (ix3 k s l)) (h : Fin 16) (hh : 8 ≤ (h : ℕ))
    (hH : ∀ (p : Fin 64) (n : Fin 128), H (ix4 (0 : Fin 1) (0 : Fin 1) p n) = x4 (ix4 k h p n)) (g : Fin 128) (hg : (g : ℕ) = h)
    (r : Fin 512) (p : Fin 64) (n : Fin 128) (hr : 512 + (r : ℕ) = h * 64 + p) :
    kept (decays x5 x8 T) (k0_pay49 (inputs x5 x8 x9 T X) (k0_pay40 (k0_pay14 B))) H g r p n = entryAt x0 x1 x2 x4 x5 k h p n := by
  have hg' : g = ⟨h, by omega⟩ := Fin.ext hg
  rw [second x5 x8 x9 T X B h8 h9 (fun s l hl => by rw [hT]; exact h2 k s l hl) h5 H g r p n (by omega) ⟨64 * h + p, by omega⟩ (by dsimp only; omega)
    ⟨128 * ((h : ℕ) / 8) + n, by omega⟩ (by dsimp only; omega)]
  unfold next entryAt
  simp only [hT, hX, hB, hH, hg']

include h8 h9 h2 h5 in
/-- Every piece a trip stores is the block's entries at its place. -/
theorem trip_pieces (𝒱 : Variants) (c : Dev nD) (bd : Option 𝒱.V) (i : grid0.Coords) (arg1 : Memref sig .tc .vmem S8x8x1024 .f32) (harg1 : arg1.IsWhole) (arg2 : Memref sig .tc .vmem S8x8x512 .bf16) (harg2 : arg2.IsWhole) (arg3 : Memref sig .tc .vmem S8x8x128 .f32) (harg3 : arg3.IsWhole) (arg4 : Memref sig .tc .vmem S8x8x1024 .f32) (harg4 : arg4.IsWhole) (arg5 : Memref sig .tc .vmem S8x16x64x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x8 .bf16) (harg9 : arg9.IsWhole) (arg10 : Memref sig .tc .vmem S128x1024 .bf16) (harg10 : arg10.IsWhole) (arg11 : Memref sig .tc .vmem S8x8x1024 .bf16) (harg11 : arg11.IsWhole) (arg12 : Memref sig .tc .vmem S8x16x64x128 .f32) (harg12 : arg12.IsWhole)
    (v9 : IVec S8x512 32) (x3 : Vec Ideal S8x8x1024 .f32) (x6 x7 : Vec Ideal S1x1024 .f32) (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 x5 x8 x9 v9 (harg1.unread x0) (harg2.unread x1) (harg3.unread x2) (harg4.unread x3) (harg5.unread x4) (harg7.unread x6) (harg8.unread x7) k).2, ∀ x, p.2 x = G x0 x1 x2 x4 x5 (p.1.emb x) := by
  have hT : ∀ (s : Fin 8) (l : Fin 128), (View.readAt (Elt Ideal) arg3.view (Rect.unit (s := S8x8x128) (k0_off1 k) S1x8x128.size (k0_off1_inb k)).toLoadRect (harg3.unread x2)) (ix3 (0 : Fin 1) s l) = x2 (ix3 (seq k) s l) := fun s l =>
    (Memref.IsWhole.readAt_unread harg3 x2 _ _).trans (congrArg x2 (row_emb _ _ (seq k) (off1_eq k) 0 s l))
  have hX : ∀ (s : Fin 8) (l : Fin 1024), (View.readAt (Elt Ideal) arg1.view (Rect.unit (s := S8x8x1024) (k0_off2 k) S1x8x1024.size (k0_off2_inb k)).toLoadRect (harg1.unread x0)) (ix3 (0 : Fin 1) s l) = x0 (ix3 (seq k) s l) := fun s l =>
    (Memref.IsWhole.readAt_unread harg1 x0 _ _).trans (congrArg x0 (row_emb _ _ (seq k) (off2_eq k) 0 s l))
  have hB : ∀ (s : Fin 8) (l : Fin 512), (View.readAt (Elt Ideal) arg2.view (Rect.unit (s := S8x8x512) (k0_off3 k) S1x8x512.size (k0_off3_inb k)).toLoadRect (harg2.unread x1)) (ix3 (0 : Fin 1) s l) = x1 (ix3 (seq k) s l) := fun s l =>
    (Memref.IsWhole.readAt_unread harg2 x1 _ _).trans (congrArg x1 (row_emb _ _ (seq k) (off3_eq k) 0 s l))
  have L := fun H => low x0 x1 x2 x4 x5 x8 x9 h8 h9 h2 h5 (seq k) _ _ _ H hT hX hB
  have U := fun H => high x0 x1 x2 x4 x5 x8 x9 h8 h9 h2 h5 (seq k) _ _ _ H hT hX hB
  unfold tripL_k0_t1 trip_k0_t1
  dsimp only
  refine List.forall_mem_cons.2 ⟨fun z => ?_, ?_⟩
  · idx_vars z
    obtain rfl : z0 = 0 := Subsingleton.elim _ _
    obtain rfl : z1 = 0 := Subsingleton.elim _ _
    refine (store_15 _ _ _ _ _).trans ?_
    refine (U _ 15 (by decide) (fun p n => (Memref.IsWhole.readAt_unread harg5 x4 _ _).trans (congrArg x4 (head_emb _ _ (seq k) 15 (off23_eq k) 0 0 p n))) 15 rfl _ z2 z3 ?_).trans (congrArg (G x0 x1 x2 x4 x5) (head_emb _ _ (seq k) 15 (off23_eq k) 0 0 z2 z3)).symm
    show _ = 15 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_14 _ _ _ _ _).trans ?_
    refine (U _ 14 (by decide) (fun p n => (Memref.IsWhole.readAt_unread harg5 x4 _ _).trans (congrArg x4 (head_emb _ _ (seq k) 14 (off22_eq k) 0 0 p n))) 14 rfl _ z2 z3 ?_).trans (congrArg (G x0 x1 x2 x4 x5) (head_emb _ _ (seq k) 14 (off22_eq k) 0 0 z2 z3)).symm
    show _ = 14 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_13 _ _ _ _ _).trans ?_
    refine (U _ 13 (by decide) (fun p n => (Memref.IsWhole.readAt_unread harg5 x4 _ _).trans (congrArg x4 (head_emb _ _ (seq k) 13 (off21_eq k) 0 0 p n))) 13 rfl _ z2 z3 ?_).trans (congrArg (G x0 x1 x2 x4 x5) (head_emb _ _ (seq k) 13 (off21_eq k) 0 0 z2 z3)).symm
    show _ = 13 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_12 _ _ _ _ _).trans ?_
    refine (U _ 12 (by decide) (fun p n => (Memref.IsWhole.readAt_unread harg5 x4 _ _).trans (congrArg x4 (head_emb _ _ (seq k) 12 (off20_eq k) 0 0 p n))) 12 rfl _ z2 z3 ?_).trans (congrArg (G x0 x1 x2 x4 x5) (head_emb _ _ (seq k) 12 (off20_eq k) 0 0 z2 z3)).symm
    show _ = 12 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_11 _ _ _ _ _).trans ?_
    refine (U _ 11 (by decide) (fun p n => (Memref.IsWhole.readAt_unread harg5 x4 _ _).trans (congrArg x4 (head_emb _ _ (seq k) 11 (off19_eq k) 0 0 p n))) 11 rfl _ z2 z3 ?_).trans (congrArg (G x0 x1 x2 x4 x5) (head_emb _ _ (seq k) 11 (off19_eq k) 0 0 z2 z3)).symm
    show _ = 11 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_10 _ _ _ _ _).trans ?_
    refine (U _ 10 (by decide) (fun p n => (Memref.IsWhole.readAt_unread harg5 x4 _ _).trans (congrArg x4 (head_emb _ _ (seq k) 10 (off18_eq k) 0 0 p n))) 10 rfl _ z2 z3 ?_).trans (congrArg (G x0 x1 x2 x4 x5) (head_emb _ _ (seq k) 10 (off18_eq k) 0 0 z2 z3)).symm
    show _ = 10 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_9 _ _ _ _ _ _).trans ?_
    refine (U _ 9 (by decide) (fun p n => (Memref.IsWhole.readAt_unread harg5 x4 _ _).trans (congrArg x4 (head_emb _ _ (seq k) 9 (off17_eq k) 0 0 p n))) 9 rfl _ z2 z3 ?_).trans (congrArg (G x0 x1 x2 x4 x5) (head_emb _ _ (seq k) 9 (off17_eq k) 0 0 z2 z3)).symm
    show _ = 9 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_8 _ _ _ _ _ _).trans ?_
    refine (U _ 8 (by decide) (fun p n => (Memref.IsWhole.readAt_unread harg5 x4 _ _).trans (congrArg x4 (head_emb _ _ (seq k) 8 (off16_eq k) 0 0 p n))) 8 rfl _ z2 z3 ?_).trans (congrArg (G x0 x1 x2 x4 x5) (head_emb _ _ (seq k) 8 (off16_eq k) 0 0 z2 z3)).symm
    show _ = 8 * 64 + (z2 : ℕ)
    dsimp only
    omega
  refine List.forall_mem_cons.2 ⟨fun z => ?_, ?_⟩
  · idx_vars z
    obtain rfl : z0 = 0 := Subsingleton.elim _ _
    obtain rfl : z1 = 0 := Subsingleton.elim _ _
    refine (store_7 _ _ _ _ _).trans ?_
    refine (L _ 7 (by decide) (fun p n => (Memref.IsWhole.readAt_unread harg5 x4 _ _).trans (congrArg x4 (head_emb _ _ (seq k) 7 (off13_eq k) 0 0 p n))) 7 rfl _ z2 z3 ?_).trans (congrArg (G x0 x1 x2 x4 x5) (head_emb _ _ (seq k) 7 (off13_eq k) 0 0 z2 z3)).symm
    show _ = 7 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_6 _ _ _ _ _).trans ?_
    refine (L _ 6 (by decide) (fun p n => (Memref.IsWhole.readAt_unread harg5 x4 _ _).trans (congrArg x4 (head_emb _ _ (seq k) 6 (off12_eq k) 0 0 p n))) 6 rfl _ z2 z3 ?_).trans (congrArg (G x0 x1 x2 x4 x5) (head_emb _ _ (seq k) 6 (off12_eq k) 0 0 z2 z3)).symm
    show _ = 6 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_5 _ _ _ _ _).trans ?_
    refine (L _ 5 (by decide) (fun p n => (Memref.IsWhole.readAt_unread harg5 x4 _ _).trans (congrArg x4 (head_emb _ _ (seq k) 5 (off11_eq k) 0 0 p n))) 5 rfl _ z2 z3 ?_).trans (congrArg (G x0 x1 x2 x4 x5) (head_emb _ _ (seq k) 5 (off11_eq k) 0 0 z2 z3)).symm
    show _ = 5 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_4 _ _ _ _ _).trans ?_
    refine (L _ 4 (by decide) (fun p n => (Memref.IsWhole.readAt_unread harg5 x4 _ _).trans (congrArg x4 (head_emb _ _ (seq k) 4 (off10_eq k) 0 0 p n))) 4 rfl _ z2 z3 ?_).trans (congrArg (G x0 x1 x2 x4 x5) (head_emb _ _ (seq k) 4 (off10_eq k) 0 0 z2 z3)).symm
    show _ = 4 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_3 _ _ _ _ _).trans ?_
    refine (L _ 3 (by decide) (fun p n => (Memref.IsWhole.readAt_unread harg5 x4 _ _).trans (congrArg x4 (head_emb _ _ (seq k) 3 (off9_eq k) 0 0 p n))) 3 rfl _ z2 z3 ?_).trans (congrArg (G x0 x1 x2 x4 x5) (head_emb _ _ (seq k) 3 (off9_eq k) 0 0 z2 z3)).symm
    show _ = 3 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_2 _ _ _ _ _).trans ?_
    refine (L _ 2 (by decide) (fun p n => (Memref.IsWhole.readAt_unread harg5 x4 _ _).trans (congrArg x4 (head_emb _ _ (seq k) 2 (off8_eq k) 0 0 p n))) 2 rfl _ z2 z3 ?_).trans (congrArg (G x0 x1 x2 x4 x5) (head_emb _ _ (seq k) 2 (off8_eq k) 0 0 z2 z3)).symm
    show _ = 2 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_1 _ _ _ _ _).trans ?_
    refine (L _ 1 (by decide) (fun p n => (Memref.IsWhole.readAt_unread harg5 x4 _ _).trans (congrArg x4 (head_emb _ _ (seq k) 1 (off7_eq k) 0 0 p n))) 1 rfl _ z2 z3 ?_).trans (congrArg (G x0 x1 x2 x4 x5) (head_emb _ _ (seq k) 1 (off7_eq k) 0 0 z2 z3)).symm
    show _ = 1 * 64 + (z2 : ℕ)
    dsimp only
  refine List.forall_mem_cons.2 ⟨fun z => ?_, ?_⟩
  · idx_vars z
    obtain rfl : z0 = 0 := Subsingleton.elim _ _
    obtain rfl : z1 = 0 := Subsingleton.elim _ _
    refine (store_0 _ _ _ _ _ _).trans ?_
    refine (L _ 0 (by decide) (fun p n => (Memref.IsWhole.readAt_unread harg5 x4 _ _).trans (congrArg x4 (head_emb _ _ (seq k) 0 (off6_eq k) 0 0 p n))) 0 rfl _ z2 z3 ?_).trans (congrArg (G x0 x1 x2 x4 x5) (head_emb _ _ (seq k) 0 (off6_eq k) 0 0 z2 z3)).symm
    show _ = 0 * 64 + (z2 : ℕ)
    dsimp only
  exact fun p hp => absurd hp List.not_mem_nil

include h8 h9 h2 h5 in
/-- Every piece of the first trips is. -/
theorem loop_pieces (𝒱 : Variants) (c : Dev nD) (bd : Option 𝒱.V) (i : grid0.Coords) (arg1 : Memref sig .tc .vmem S8x8x1024 .f32) (harg1 : arg1.IsWhole) (arg2 : Memref sig .tc .vmem S8x8x512 .bf16) (harg2 : arg2.IsWhole) (arg3 : Memref sig .tc .vmem S8x8x128 .f32) (harg3 : arg3.IsWhole) (arg4 : Memref sig .tc .vmem S8x8x1024 .f32) (harg4 : arg4.IsWhole) (arg5 : Memref sig .tc .vmem S8x16x64x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x8 .bf16) (harg9 : arg9.IsWhole) (arg10 : Memref sig .tc .vmem S128x1024 .bf16) (harg10 : arg10.IsWhole) (arg11 : Memref sig .tc .vmem S8x8x1024 .bf16) (harg11 : arg11.IsWhole) (arg12 : Memref sig .tc .vmem S8x16x64x128 .f32) (harg12 : arg12.IsWhole)
    (v9 : IVec S8x512 32) (x3 : Vec Ideal S8x8x1024 .f32) (x6 x7 : Vec Ideal S1x1024 .f32) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 x5 x8 x9 v9 (harg1.unread x0) (harg2.unread x1) (harg3.unread x2) (harg4.unread x3) (harg5.unread x4) (harg7.unread x6) (harg8.unread x7) n).2, ∀ x, p.2 x = G x0 x1 x2 x4 x5 (p.1.emb x) := by
  induction n with
  | zero => exact fun p hp => absurd hp List.not_mem_nil
  | succ n ih =>
    intro p hp
    have e := congrArg Prod.snd (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 x5 x8 x9 v9 (harg1.unread x0) (harg2.unread x1) (harg3.unread x2) (harg4.unread x3) (harg5.unread x4) (harg7.unread x6) (harg8.unread x7) ⟨n, hn⟩)
    dsimp only at e
    rw [e] at hp
    rcases List.mem_append.1 hp with hp | hp
    · exact trip_pieces x0 x1 x2 x4 x5 x8 x9 h8 h9 h2 h5 𝒱 c bd i arg1 harg1 arg2 harg2 arg3 harg3 arg4 harg4 arg5 harg5 arg6 harg6 arg7 harg7 arg8 harg8 arg9 harg9 arg10 harg10 arg11 harg11 arg12 harg12 v9 x3 x6 x7 ⟨n, hn⟩ p hp
    · exact ih (Nat.le_of_succ_le hn) p hp

include h8 h9 h2 h5 in
/-- What a grid point leaves in its block of the new state. -/
theorem block (c : Dev nD) (i : grid0.Coords) (arg1 : Memref sig .tc .vmem S8x8x1024 .f32) (harg1 : arg1.IsWhole) (arg2 : Memref sig .tc .vmem S8x8x512 .bf16) (harg2 : arg2.IsWhole) (arg3 : Memref sig .tc .vmem S8x8x128 .f32) (harg3 : arg3.IsWhole) (arg4 : Memref sig .tc .vmem S8x8x1024 .f32) (harg4 : arg4.IsWhole) (arg5 : Memref sig .tc .vmem S8x16x64x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x8 .bf16) (harg9 : arg9.IsWhole) (arg10 : Memref sig .tc .vmem S128x1024 .bf16) (harg10 : arg10.IsWhole) (arg11 : Memref sig .tc .vmem S8x8x1024 .bf16) (harg11 : arg11.IsWhole) (arg12 : Memref sig .tc .vmem S8x16x64x128 .f32) (harg12 : arg12.IsWhole)
    (x3 : Vec Ideal S8x8x1024 .f32) (x6 x7 : Vec Ideal S1x1024 .f32) (y : S8x16x64x128.Idx) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y = G x0 x1 x2 x4 x5 y := by
  unfold out0_A_11
  refine View.read_writes_apply_of_pieces _ _ (G x0 x1 x2 x4 x5) _ ?_ y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)
  have e5 : View.readAt (Elt Ideal) arg6.view (Rect.unit (s := S1x128) ![0, 0] ![1, 128] inb_S1x128_S1x128_0_0).toLoadRect (harg6.unread x5) = x5 :=
    funext fun z => (Memref.IsWhole.readAt_unread harg6 x5 _ _).trans (congrArg x5 (whole _ _ z))
  have e8 : View.readAt (Elt Ideal) arg9.view (Rect.unit (s := S8x8) ![0, 0] ![8, 8] inb_S8x8_S8x8_0_0).toLoadRect (harg9.unread x8) = x8 :=
    funext fun z => (Memref.IsWhole.readAt_unread harg9 x8 _ _).trans (congrArg x8 (whole _ _ z))
  have e9 : View.readAt (Elt Ideal) arg10.view (Rect.unit (s := S128x1024) ![0, 0] ![128, 1024] inb_S128x1024_S128x1024_0_0).toLoadRect (harg10.unread x9) = x9 :=
    funext fun z => (Memref.IsWhole.readAt_unread harg10 x9 _ _).trans (congrArg x9 (whole _ _ z))
  have key := loop_pieces x0 x1 x2 x4 x5 x8 x9 h8 h9 h2 h5 Variants.none c none i arg1 harg1 arg2 harg2 arg3 harg3 arg4 harg4 arg5 harg5 arg6 harg6 arg7 harg7 arg8 harg8 arg9 harg9 arg10 harg10 arg11 harg11 arg12 harg12 kernelRun0_A.sl.v9 x3 x6 x7 (Scf.trips (0#32) (Scalar.addi 0#32 8#32) 1#32) (le_refl _)
  unfold kernelRun0_A
  dsimp only
  rw [e5, e8, e9]
  exact key

end Cert.Hand.StateBlock
end
-- ==== Proof.StateRef.lean ====
/-
  The state update's reference read at an index: its running sums (`cumsum_at`), and each entry of its result as the entry after
  four steps (`out_at`).
-/
module

public import proofs.«01_k».proof.Proof.Gen.StateRefIdeal.Read
public import proofs.«01_k».proof.Proof.StateSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.StateRef
open Cert.StateRefIdeal Cert.StateRefIdeal.Gen Cert.StateRefIdeal.Read Cert.Hand.State

/-- The window of four steps. -/
abbrev W : Shape := ⟨3, ![1, 4, 1]⟩

/-- The window's positions, in order. -/
theorem positions : (List.finRange W.numel).map (fun n => ((W.rowMajor.symm n 0).val, (W.rowMajor.symm n 1).val, (W.rowMajor.symm n 2).val))
    = [(0, 0, 0), (0, 1, 0), (0, 2, 0), (0, 3, 0)] := by decide +kernel

/-- A running sum over the four steps. -/
theorem cumsum_at (x : FVec Ideal S128x4x16 .f32) (z : FVec Ideal S_ .f32) (hz : ∀ i, z i = (0 : EReal)) (i : Fin 128) (s : Fin 4) (h : Fin 16) :
    Host.reduceWindowAdd ![1, 4, 1] ![1, 1, 1] ![0, 3, 0] ![0, 0, 0] x z reduceWindows_S128x4x16_S128x4x16_w1s1p0_0_w4s1p3_0_w1s1p0_0 h_S_ (ix3 i s h)
      = acc (fun j : Fin 4 => x (ix3 i j h)) s := by
  let g : ℕ × ℕ × ℕ → EReal := fun q => if hq : 3 ≤ (s : ℕ) + q.2.1 ∧ (s : ℕ) + q.2.1 - 3 < 4 then x (ix3 i ⟨(s : ℕ) + q.2.1 - 3, hq.2⟩ h) else 0
  have hfold : Host.reduceWindowAdd ![1, 4, 1] ![1, 1, 1] ![0, 3, 0] ![0, 0, 0] x z reduceWindows_S128x4x16_S128x4x16_w1s1p0_0_w4s1p3_0_w1s1p0_0 h_S_ (ix3 i s h)
      = ((List.finRange W.numel).map (fun n => ((W.rowMajor.symm n 0).val, (W.rowMajor.symm n 1).val, (W.rowMajor.symm n 2).val))).foldl (fun r q => r + g q) 0 := by
    rw [List.foldl_map]
    show List.foldl _ (z (Shape.Idx.first h_S_)) _ = _
    rw [hz]
    refine congrArg (fun f => List.foldl f 0 (List.finRange W.numel)) (funext fun r => funext fun n => congrArg (r + ·) ?_)
    have h0 : (W.rowMajor.symm n 0).val = 0 := by have h := (W.rowMajor.symm n 0).isLt; change _ < 1 at h; omega
    have h2 : (W.rowMajor.symm n 2).val = 0 := by have h := (W.rowMajor.symm n 2).isLt; change _ < 1 at h; omega
    dsimp only [g]
    by_cases hq : 3 ≤ (s : ℕ) + (W.rowMajor.symm n 1).val ∧ (s : ℕ) + (W.rowMajor.symm n 1).val - 3 < 4
    · rw [dif_pos hq, dif_pos]
      · refine congrArg x (funext fun a => Fin.ext ?_)
        fin_cases a
        · show (i : ℕ) * 1 + (W.rowMajor.symm n 0).val - 0 = i; omega
        · show (s : ℕ) * 1 + (W.rowMajor.symm n 1).val - 3 = s + (W.rowMajor.symm n 1).val - 3; omega
        · show (h : ℕ) * 1 + (W.rowMajor.symm n 2).val - 0 = h; omega
      · intro a
        fin_cases a
        · show 0 ≤ (i : ℕ) * 1 + (W.rowMajor.symm n 0).val ∧ (i : ℕ) * 1 + (W.rowMajor.symm n 0).val - 0 < 128; omega
        · show 3 ≤ (s : ℕ) * 1 + (W.rowMajor.symm n 1).val ∧ (s : ℕ) * 1 + (W.rowMajor.symm n 1).val - 3 < 4; omega
        · show 0 ≤ (h : ℕ) * 1 + (W.rowMajor.symm n 2).val ∧ (h : ℕ) * 1 + (W.rowMajor.symm n 2).val - 0 < 16; omega
    · rw [dif_neg hq, dif_neg]
      intro ha
      have h1 := ha 1
      change 3 ≤ (s : ℕ) * 1 + (W.rowMajor.symm n 1).val ∧ (s : ℕ) * 1 + (W.rowMajor.symm n 1).val - 3 < 4 at h1
      exact hq (by omega)
  rw [hfold, positions]
  unfold acc
  rw [Fin.sum_univ_four]
  dsimp only [List.foldl, g]
  fin_cases s <;> simp <;> rfl

variable (x : FVec Ideal S128x4x1024 .f32) (b : FVec Ideal S128x4x512 .bf16) (d : FVec Ideal S128x4x128 .f32) (h0 : FVec Ideal S128x16x64x128 .f32)
  (a : FVec Ideal S16 .f32)

/-- The running sums of the decay exponents. -/
theorem sums_at (i : Fin 128) (s : Fin 4) (h : Fin 16) : val_main_v10 (F := Ideal) d a (ix3 i s h)
    = acc (fun j : Fin 4 => d (ix3 i j (⟨h, by omega⟩ : Fin 128)) * -Ideal.exp (a (ix1 h))) s := by
  unfold val_main_v10
  rw [cumsum_at _ _ (fun i => by rw [val_main_call0_call0_v0_apply, val_main_call0_call0_cst_apply]; exact Ideal.ofBits_zero .f32)]
  refine congrArg (fun u => acc u s) (funext fun j => ?_)
  pointwise [val_main_v9, val_main_v8, val_main_v7, val_main_v6, val_main_v1, val_main_v0]

/-- An input, scaled and decayed. -/
theorem input_at (i : Fin 128) (s : Fin 4) (h : Fin 16) (p : Fin 64) : val_main_v20 (F := Ideal) x d a (ix4 i s h p)
    = x (ix3 i s (⟨64 * h + p, by omega⟩ : Fin 1024)) * d (ix3 i s (⟨h, by omega⟩ : Fin 128))
      * Ideal.exp (val_main_v10 (F := Ideal) d a (ix3 i (3 : Fin 4) h) - val_main_v10 (F := Ideal) d a (ix3 i s h)) := by
  unfold val_main_v20 val_main_v19 val_main_v18 val_main_v17 val_main_v16 val_main_v15 val_main_v14
  generalize val_main_v10 (F := Ideal) d a = w
  pointwise [val_main_v13, val_main_v12, val_main_v11, val_main_v6, val_main_v5]
  rw [show (⟨(h : ℕ) * 64 + p, by omega⟩ : Fin 1024) = ⟨64 * h + p, by omega⟩ from Fin.ext (by dsimp only; omega)]

/-- The result: every entry is the entry after the four steps. -/
theorem out_at (i : Fin 128) (h : Fin 16) (p : Fin 64) (n : Fin 128) : val_main_v30 (F := Ideal) x b d h0 a (ix4 i h p n)
    = entry (h0 (ix4 i h p n)) (fun s => d (ix3 i s (⟨h, by omega⟩ : Fin 128))) (fun s => x (ix3 i s (⟨64 * h + p, by omega⟩ : Fin 1024)))
        (fun s => b (ix3 i s (⟨128 * ((h : ℕ) / 8) + n, by omega⟩ : Fin 512))) (-Ideal.exp (a (ix1 h))) := by
  have hs := sums_at d a i
  have hi := input_at x d a i
  unfold entry
  simp only [← hs]
  simp only [← hi]
  unfold val_main_v30 val_main_v29 val_main_v28 val_main_v27 val_main_v26 val_main_v25 val_main_v24 val_main_v23 val_main_v22 val_main_v21
  generalize val_main_v10 (F := Ideal) d a = w
  generalize val_main_v20 (F := Ideal) x d a = u
  pointwise [val_main_v4, val_main_v3, val_main_v2]
  refine congrArg _ (Finset.sum_congr rfl fun s _ => congrArg (u (ix4 i s h p) * ·) (congrArg (fun l => b (ix3 i s l)) (Fin.ext ?_)))
  dsimp only
  omega

end Cert.Hand.StateRef
end
-- ==== Proof.StateFinal.lean ====
/-
  The state-update kernel's result array: every entry is the old entry after the four steps (`State.entry`) of the operands.
-/
module

public import proofs.«01_k».proof.Proof.Gen.StateIdeal.Value
public import proofs.«01_k».proof.Proof.StateBlock
public import proofs.«01_k».proof.Proof.StateRef
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand.StateFinal
open Cert.StateIdeal Cert.StateIdeal.Gen Cert.Hand.State

variable (m : (ℓ : Loc nD τ sig) → Buf (Elt Ideal) ℓ)

/-- The windows' block indices: eight sequences at `t`; the constants whole. -/
theorem idx : ∀ t : Fin cfg0.N, win0_0.index t = ![t.val, 0, 0] ∧ win0_1.index t = ![t.val, 0, 0] ∧ win0_2.index t = ![t.val, 0, 0]
    ∧ win0_4.index t = ![t.val, 0, 0, 0] ∧ win0_5.index t = ![0, 0] ∧ win0_8.index t = ![0, 0] ∧ win0_9.index t = ![0, 0]
    ∧ win0_11.index t = ![t.val, 0, 0, 0] :=
  (by decide +kernel : ∀ t : Fin grid0.N, _)

abbrev x (c : Dev nD) : FVec Ideal S128x4x1024 .f32 := m ((c : Thread nD τ).loc main_arg0)
abbrev b (c : Dev nD) : FVec Ideal S128x4x512 .bf16 := m ((c : Thread nD τ).loc main_arg1)
abbrev d (c : Dev nD) : FVec Ideal S128x4x128 .f32 := m ((c : Thread nD τ).loc main_arg2)
abbrev h0 (c : Dev nD) : FVec Ideal S128x16x64x128 .f32 := m ((c : Thread nD τ).loc main_arg4)
abbrev a (c : Dev nD) : FVec Ideal S16 .f32 := m ((c : Thread nD τ).loc main_arg5)

/-- The padding's zero. -/
def zero (φ : FTy) : FVec Ideal S_ φ := sitofp φ (constantI S_ 32 0#32)

theorem zero_at (φ : FTy) (i : S_.Idx) : zero φ i = (0 : EReal) := by
  simp [zero, sitofp, constantI, FloatOps.sitofp]

/-- Four steps' rows padded to eight: the rows, then zeros. -/
theorem padded_at {w : ℕ} {φ : FTy} (u : FVec Ideal ⟨3, ![128, 4, w]⟩ φ)
    (hp : (⟨3, ![128, 4, w]⟩ : Shape).Pads ![0, 0, 0] ![0, 4, 0] ![0, 0, 0] ⟨3, ![128, 8, w]⟩) (i : Fin 128) (s : Fin 8) (l : Fin w) :
    pad ⟨3, ![128, 8, w]⟩ ![0, 0, 0] ![0, 4, 0] ![0, 0, 0] u (zero φ) hp h_S_ (ix3 i s l) = pad8 (fun j => u (ix3 i j l)) s := by
  unfold pad8
  split
  · next h =>
    refine pad_apply_of_inside _ _ _ u _ hp h_S_ (ix3 i s l) (ix3 i (⟨s, h⟩ : Fin 4) l) fun q => ?_
    fin_cases q
    · show (i : ℕ) = 0 + (i : ℕ) * (0 + 1); omega
    · show (s : ℕ) = 0 + (s : ℕ) * (0 + 1); omega
    · show (l : ℕ) = 0 + (l : ℕ) * (0 + 1); omega
  · next h =>
    refine (pad_apply_of_not_inside _ _ _ u _ hp h_S_ (ix3 i s l) 1 fun hq => ?_).trans (zero_at φ _)
    have h' : ((s : ℕ) - 0) / (0 + 1) < 4 := hq.2.2
    omega

variable (c : Dev nD) (t : Fin cfg0.N)

/-- The decay rates' logarithms, padded. -/
def rates (v : FVec Ideal S16 .f32) : FVec Ideal S1x128 .f32 :=
  broadcastInDim S1x128 ![1] bcast_S128_S1x128_1 (pad S128 ![0] ![112] ![0] v (zero .f32) pads_S16_S128_01120 h_S_)

theorem V_rates : V m c main_v1 = rates (a m c) := by
  unfold V
  simp only [List.flatten, List.append, StableHlo.TRef.binary, StableHlo.TRef.unary, StableHlo.TRef.toBuf, StableHlo.TRef.ofBuf, cast_eq]
  after_results
  try rfl

theorem V_x : V m c main_v19 = pad S128x8x1024 ![0, 0, 0] ![0, 4, 0] ![0, 0, 0] (x m c) (zero .f32) pads_S128x4x1024_S128x8x1024_000_040_000 h_S_ := by
  unfold V
  simp only [List.flatten, List.append, StableHlo.TRef.binary, StableHlo.TRef.unary, StableHlo.TRef.toBuf, StableHlo.TRef.ofBuf, cast_eq]
  after_results
  try rfl

theorem V_b : V m c main_v20 = pad S128x8x512 ![0, 0, 0] ![0, 4, 0] ![0, 0, 0] (b m c) (zero .bf16) pads_S128x4x512_S128x8x512_000_040_000 h_S_ := by
  unfold V
  simp only [List.flatten, List.append, StableHlo.TRef.binary, StableHlo.TRef.unary, StableHlo.TRef.toBuf, StableHlo.TRef.ofBuf, cast_eq]
  after_results
  try rfl

theorem V_d : V m c main_v21 = pad S128x8x128 ![0, 0, 0] ![0, 4, 0] ![0, 0, 0] (d m c) (zero .f32) pads_S128x4x128_S128x8x128_000_040_000 h_S_ := by
  unfold V
  simp only [List.flatten, List.append, StableHlo.TRef.binary, StableHlo.TRef.unary, StableHlo.TRef.toBuf, StableHlo.TRef.ofBuf, cast_eq]
  after_results
  try rfl

/-- The triangle: a position against those up to it. -/
def below : IVec S8x8 1 := cmpi .sge (broadcastInDim S8x8 ![0, 1] bcast_S8x1_S8x8_0_1 (broadcastInDim S8x1 ![0] bcast_S8_S8x1_0 (iotaInDim S8 32 0)))
  (broadcastInDim S8x8 ![0, 1] bcast_S1x8_S8x8_0_1 (broadcastInDim S1x8 ![1] bcast_S8_S1x8_1 (iotaInDim S8 32 0)))

theorem below_at : ∀ s j : Fin 8, below (ix2 s j) = if (j : ℕ) ≤ s then 1#1 else 0#1 := by decide +kernel

theorem V_tri : V m c main_v9 = uitofp (F := Ideal) .bf16 below := by
  unfold V
  simp only [List.flatten, List.append, StableHlo.TRef.binary, StableHlo.TRef.unary, StableHlo.TRef.toBuf, StableHlo.TRef.ofBuf, cast_eq]
  after_results
  try rfl

/-- A column's head: its number divided by the heads' width, rounded down. -/
def head (n k : IVec S1024 32) (k1 : IVec S_ 32) : IVec S1024 32 :=
  select (andi (cmpi .ne (signi n) (broadcastInDim S1024 ![] bcast_S_S1024 (signi k1)))
    (cmpi .ne (Host.remsi n k) (broadcastInDim S1024 ![] bcast_S_S1024 (constantI S_ 32 0#32))))
    (subi (Host.divsi n k) (broadcastInDim S1024 ![] bcast_S_S1024 (constantI S_ 32 1#32))) (Host.divsi n k)

def heads : IVec S1024 32 := head (iotaInDim S1024 32 0) (broadcastInDim S1024 ![] bcast_S_S1024 (constantI S_ 32 64#32)) (constantI S_ 32 64#32)

theorem heads_at : ∀ l : Fin 1024, heads (ix1 l) = BitVec.ofNat 32 ((l : ℕ) / 64) := by decide +kernel

/-- A lane against the columns of its head. -/
def spread : IVec S128x1024 1 := cmpi .eq (broadcastInDim S128x1024 ![0, 1] bcast_S128x1_S128x1024_0_1 (broadcastInDim S128x1 ![0] bcast_S128_S128x1_0 (iotaInDim S128 32 0)))
  (broadcastInDim S128x1024 ![0, 1] bcast_S1x1024_S128x1024_0_1 (broadcastInDim S1x1024 ![1] bcast_S1024_S1x1024_1 heads))

theorem spread_at (l : Fin 128) (k : Fin 1024) : spread (ix2 l k) = if (l : ℕ) = (k : ℕ) / 64 then 1#1 else 0#1 := by
  have e : spread (ix2 l k) = IntOp.cmpi .eq (BitVec.ofNat 32 l) (heads (ix1 k)) := by
    unfold spread
    generalize heads = H
    pointwise
  have q : BitVec.ofNat 32 (l : ℕ) = BitVec.ofNat 32 ((k : ℕ) / 64) ↔ (l : ℕ) = (k : ℕ) / 64 :=
    ⟨fun h => by
      have h' := congrArg BitVec.toNat h
      rw [BitVec.toNat_ofNat, BitVec.toNat_ofNat, Nat.mod_eq_of_lt (by omega), Nat.mod_eq_of_lt (by omega)] at h'
      exact h', fun h => by rw [h]⟩
  rw [e, heads_at]
  by_cases h : (l : ℕ) = (k : ℕ) / 64
  · rw [if_pos h, h]
    simp [IntOp.cmpi]
  · rw [if_neg h]
    show BitVec.ofBool (BitVec.ofNat 32 (l : ℕ) == BitVec.ofNat 32 ((k : ℕ) / 64)) = 0#1
    rw [beq_eq_false_iff_ne.2 fun e => h (q.1 e)]
    rfl

theorem V_expand : V m c main_v18 = uitofp (F := Ideal) .bf16 spread := by
  unfold V
  simp only [List.flatten, List.append, StableHlo.TRef.binary, StableHlo.TRef.unary, StableHlo.TRef.ternary, StableHlo.TRef.nullary, StableHlo.TRef.toBuf, StableHlo.TRef.ofBuf, cast_eq]
  after_results
  try rfl

/-- The triangle's block. -/
theorem tri_at (s j : Fin 8) : iblk m c 8 t (ix2 s j) = if (j : ℕ) ≤ s then (1 : EReal) else 0 := by
  have e : V m c main_v9 (ix2 s j) = if (j : ℕ) ≤ s then (1 : EReal) else 0 := by
    rw [V_tri]
    show FloatOps.uitofp (F := Ideal) .bf16 (below (ix2 s j)) = _
    rw [below_at]
    split <;> simp [FloatOps.uitofp]
  refine Eq.trans ?_ e
  blk_simp [iblk]
  blk_ext [idx t]

/-- The columns' heads' block. -/
theorem expand_at (l : Fin 128) (k : Fin 1024) : iblk m c 9 t (ix2 l k) = if (l : ℕ) = (k : ℕ) / 64 then (1 : EReal) else 0 := by
  have e : V m c main_v18 (ix2 l k) = if (l : ℕ) = (k : ℕ) / 64 then (1 : EReal) else 0 := by
    rw [V_expand]
    show FloatOps.uitofp (F := Ideal) .bf16 (spread (ix2 l k)) = _
    rw [spread_at]
    split <;> simp [FloatOps.uitofp]
  refine Eq.trans ?_ e
  blk_simp [iblk]
  blk_ext [idx t]

/-- The inputs' block. -/
theorem x_at (k : Fin 8) (i : Fin 128) (hi : (i : ℕ) = t.val * 8 + k) (s : Fin 8) (l : Fin 1024) :
    iblk m c 0 t (ix3 k s l) = pad8 (fun j => x m c (ix3 i j l)) s := by
  refine Eq.trans ?_ ((congrFun (V_x m c) (ix3 i s l)).trans (padded_at _ _ i s l))
  blk_simp [iblk]
  blk_ext [idx t]

/-- The keys' block. -/
theorem b_at (k : Fin 8) (i : Fin 128) (hi : (i : ℕ) = t.val * 8 + k) (s : Fin 8) (l : Fin 512) :
    iblk m c 1 t (ix3 k s l) = pad8 (fun j => b m c (ix3 i j l)) s := by
  refine Eq.trans ?_ ((congrFun (V_b m c) (ix3 i s l)).trans (padded_at _ _ i s l))
  blk_simp [iblk]
  blk_ext [idx t]

/-- The step sizes' block. -/
theorem d_at (k : Fin 8) (i : Fin 128) (hi : (i : ℕ) = t.val * 8 + k) (s : Fin 8) (l : Fin 128) :
    iblk m c 2 t (ix3 k s l) = pad8 (fun j => d m c (ix3 i j l)) s := by
  refine Eq.trans ?_ ((congrFun (V_d m c) (ix3 i s l)).trans (padded_at _ _ i s l))
  blk_simp [iblk]
  blk_ext [idx t]

/-- The old states' block. -/
theorem h0_at (k : Fin 8) (i : Fin 128) (hi : (i : ℕ) = t.val * 8 + k) (h : Fin 16) (p : Fin 64) (n : Fin 128) :
    iblk m c 4 t (ix4 k h p n) = h0 m c (ix4 i h p n) := by
  blk_point [iblk, V, idx t]

/-- The padded rates' logarithms, at a head. -/
theorem rates_at (v : FVec Ideal S16 .f32) (h : Fin 16) (l : Fin 128) (hl : (l : ℕ) = h) : rates v (ix2 (0 : Fin 1) l) = v (ix1 h) := by
  have e : rates v (ix2 (0 : Fin 1) l) = pad S128 ![0] ![112] ![0] v (zero .f32) pads_S16_S128_01120 h_S_ (ix1 l) := by
    unfold rates
    generalize pad S128 ![0] ![112] ![0] v (zero .f32) pads_S16_S128_01120 h_S_ = H
    pointwise
  rw [e]
  refine pad_apply_of_inside _ _ _ v _ _ h_S_ (ix1 l) (ix1 h) fun q => ?_
  fin_cases q
  show (l : ℕ) = 0 + (h : ℕ) * (0 + 1)
  omega

/-- The rates' logarithms' block. -/
theorem a_at (h : Fin 16) (l : Fin 128) (hl : (l : ℕ) = h) : iblk m c 5 t (ix2 (0 : Fin 1) l) = a m c (ix1 h) := by
  refine Eq.trans ?_ ((congrFun (V_rates m c) (ix2 (0 : Fin 1) l)).trans (rates_at _ h l hl))
  blk_simp [iblk]
  blk_ext [idx t]

variable (hd : ∀ (i : Fin 128) (s : Fin 4) (l : Fin 128), (l : ℕ) < 16 → ∃ r : ℝ, d m c (ix3 i s l) = r) (ha : ∀ i : Fin 16, a m c (ix1 i) ≠ ⊤)

include hd ha in
/-- What point `t` stores is the new state's entry. -/
theorem point (k : Fin 8) (i : Fin 128) (hi : (i : ℕ) = t.val * 8 + k) (h : Fin 16) (p : Fin 64) (n : Fin 128) :
    (outsAt0 m c t).2 (ix4 k h p n) = entry (h0 m c (ix4 i h p n)) (fun s => d m c (ix3 i s (⟨h, by omega⟩ : Fin 128)))
      (fun s => x m c (ix3 i s (⟨64 * h + p, by omega⟩ : Fin 1024))) (fun s => b m c (ix3 i s (⟨128 * ((h : ℕ) / 8) + n, by omega⟩ : Fin 512)))
      (-Ideal.exp (a m c (ix1 h))) := by
  have hN : t.val < 16 := lt_of_lt_of_eq t.isLt N_0
  unfold outsAt0
  refine (StateBlock.block (iblk m c 0 t) (iblk m c 1 t) (iblk m c 2 t) (iblk m c 4 t) (iblk m c 5 t) (iblk m c 8 t) (iblk m c 9 t)
    (tri_at m c t) (expand_at m c t) (fun k' s l hl => ?_) (fun l hl => ?_) c _ _ _ _ _ _ _ _ _ _ _ _ _ _ _ _ _ _ _ _ _ _ _ _ _ _ _ _ (ix4 k h p n)).trans ?_
  · rw [d_at m c t k' ⟨t.val * 8 + k', by omega⟩ rfl s l]
    exact IsReal.pad8 (fun j => hd _ j l hl) s
  · rw [a_at m c t ⟨l, hl⟩ l rfl]
    exact ha _
  · show StateBlock.entryAt _ _ _ _ _ k h p n = _
    unfold StateBlock.entryAt
    rw [h0_at m c t k i hi, a_at m c t h _ rfl]
    simp only [x_at m c t k i hi, d_at m c t k i hi, b_at m c t k i hi]
    refine (padded_eq _ (fun j => d m c (ix3 i j _)) (fun j => x m c (ix3 i j _)) _ _).trans ?_
    refine congrArg (fun u => entry _ _ _ u _) (funext fun s => ?_)
    exact dif_pos s.isLt

include hd ha in
/-- With finite step sizes, and rates' logarithms below infinity, the result array is the reference's result. -/
theorem value : (dats m 0 c).arrAt 11 (cfgs 0).N
    = Cert.StateRefIdeal.Read.val_main_v30 (F := Ideal) (x m c) (b m c) (d m c) (h0 m c) (a m c) := by
  refine (dats m 0 c).arrAt_eq_of_covers 11 _ (by decide +kernel) fun t _ y => ?_
  blk_simp
  rw [after0_11]
  have hN : t.val < 16 := lt_of_lt_of_eq t.isLt N_0
  have hi := (idx t).2.2.2.2.2.2.2
  idx_vars y
  have hE : (win0_11.blk t).view.emb (ix4 y0 y1 y2 y3) = ix4 (⟨t.val * 8 + y0, by omega⟩ : Fin 128) y1 y2 y3 := by
    blk_ext [idx t]
  refine (point m c t hd ha y0 ⟨t.val * 8 + y0, by omega⟩ rfl y1 y2 y3).trans ?_
  refine Eq.trans ?_ (congrArg (Cert.StateRefIdeal.Read.val_main_v30 (F := Ideal) (x m c) (b m c) (d m c) (h0 m c) (a m c)) hE).symm
  exact (StateRef.out_at (x m c) (b m c) (d m c) (h0 m c) (a m c) _ y1 y2 y3).symm

end Cert.Hand.StateFinal
end
-- ==== Proof.AttnPre.lean ====
/-
  The precondition of the attention's value claim, read: where `finite_scores` is all ones, the queries, the keys and the
  sinks are real numbers.
-/
module

public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.AttnPre
open Cert.Pre_finite_scores

/-- The side conditions of the precondition's operations. -/
theorem facts : Cert.Pre_finite_scores.Facts := ⟨by decide, by decide, by decide⟩

/-- The pattern of plus infinity. -/
theorem pos_inf : Ideal.ofBits .f32 0x7F800000#32 = (⊤ : EReal) := by
  simp [Ideal.ofBits, Ideal.ieee]

/-- A number whose absolute value compares below infinity is real. -/
theorem real_of_lt (x : EReal) (h : FloatOps.cmpf (F := Ideal) (φ := .f32) .olt (FloatOps.hostAbsf x) (Ideal.ofBits .f32 0x7F800000#32) = 1#1) : ∃ r : ℝ, x = r := by
  rw [pos_inf] at h
  induction x using EReal.rec with
  | bot => simp [FloatOps.cmpf, FloatOps.hostAbsf, Ideal.cmp] at h
  | coe r => exact ⟨r, rfl⟩
  | top => simp [FloatOps.cmpf, FloatOps.hostAbsf, Ideal.cmp] at h

variable [Cert.Pre_finite_scores.Facts] (q : FVec Ideal S4x8192x512 .f32) (k v : FVec Ideal S4x8192x128 .f32) (s : FVec Ideal S8 .f32)

/-- The queries are real. -/
theorem queries (h : (fn (F := Ideal) q k v s).1 = fun _ => 1#1) (i : S4x8192x512.Idx) : ∃ r : ℝ, q i = r := by
  have hi := congrFun h i
  exact real_of_lt _ hi

/-- The keys are real. -/
theorem keys (h : (fn (F := Ideal) q k v s).2.1 = fun _ => 1#1) (i : S4x8192x128.Idx) : ∃ r : ℝ, k i = r := by
  have hi := congrFun h i
  exact real_of_lt _ hi

/-- The sinks are real. -/
theorem sinks (h : (fn (F := Ideal) q k v s).2.2 = fun _ => 1#1) (i : S8.Idx) : ∃ r : ℝ, s i = r := by
  have hi := congrFun h i
  exact real_of_lt _ hi

end Cert.Hand.AttnPre
end
-- ==== Proof.StatePre.lean ====
/-
  The precondition of the state update's value claim, read: where `finite_steps` is all ones, the heads' step sizes are real
  numbers and the decay rates' logarithms are not infinity.
-/
module

public import proofs.«01_k».proof.Defs
public import proofs.«01_k».proof.Proof.AttnPre
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.StatePre
open Cert.Pre_finite_steps Cert.Hand.AttnPre

/-- The side conditions of the precondition's operations. -/
theorem facts : Cert.Pre_finite_steps.Facts := ⟨by decide, by decide, by decide⟩

/-- A number that compares below infinity is not infinity. -/
theorem ne_top_of_lt (x : EReal) (h : FloatOps.cmpf (F := Ideal) (φ := .f32) .olt x (Ideal.ofBits .f32 0x7F800000#32) = 1#1) : x ≠ ⊤ := by
  rintro rfl
  rw [pos_inf] at h
  simp [FloatOps.cmpf, Ideal.cmp] at h

variable [Cert.Pre_finite_steps.Facts] (x : FVec Ideal S128x4x1024 .f32) (b : FVec Ideal S128x4x512 .bf16) (d : FVec Ideal S128x4x128 .f32)
  (z : FVec Ideal S128x4x1024 .f32) (h0 : FVec Ideal S128x16x64x128 .f32) (a : FVec Ideal S16 .f32) (k : FVec Ideal S16 .f32) (g : FVec Ideal S1024 .f32)

/-- The heads' step sizes are real. -/
theorem steps (h : (fn (F := Ideal) x b d z h0 a k g).1 = fun _ => 1#1) (i : Fin 128) (s : Fin 4) (l : Fin 128) (hl : (l : ℕ) < 16) :
    ∃ r : ℝ, d (ix3 i s l) = r := by
  have hi := congrFun h (ix3 i s (⟨l, hl⟩ : Fin 16))
  refine real_of_lt _ (Eq.trans ?_ hi)
  refine congrArg (fun j => FloatOps.cmpf (F := Ideal) (φ := .f32) .olt (FloatOps.hostAbsf (d j)) (Ideal.ofBits .f32 0x7F800000#32)) ?_
  funext q
  refine Fin.ext ?_
  fin_cases q
  · show (i : ℕ) = 0 + (i : ℕ); omega
  · show (s : ℕ) = 0 + (s : ℕ); omega
  · show (l : ℕ) = 0 + (l : ℕ); omega

/-- The decay rates' logarithms are not infinity. -/
theorem rates (h : (fn (F := Ideal) x b d z h0 a k g).2 = fun _ => 1#1) (i : Fin 16) : a (ix1 i) ≠ ⊤ := by
  have hi := congrFun h (ix1 i)
  exact ne_top_of_lt _ hi

end Cert.Hand.StatePre
end
-- ==== Proof.FfnRef.lean ====
/-
  The reference's second half of the layer, read one row at a time: row `r` of its result is `Row.rowOut` of row `r` of
  the residual stream and of the two head groups' outputs.
-/
module

public import proofs.«01_k».proof.Proof.Gen.FfnRefIdeal.Read
public import proofs.«01_k».proof.Proof.RowSpec
public import Idealize.ShloMosaic.Lib.Pointwise

@[expose] public section

set_option maxRecDepth 16384

noncomputable section

open Idealize.ShloMosaic Idealize.ShloMosaic.TcCoe Idealize.SL.Sem

namespace Cert.Hand.FfnRef
open Cert.FfnRefIdeal Cert.FfnRefIdeal.Read

variable (x : FVec Ideal S32768x1024 .f32) (o : FVec Ideal S32768x512 .bf16) (y : FVec Ideal S32768x1024 .bf16)
  (wo : FVec Ideal S1536x1024 .f32) (g : FVec Ideal S1024 .f32) (wg : FVec Ideal S1024x5632 .f32)
  (wd : FVec Ideal S2816x1024 .f32)

/-- Row `r` after the output projection. -/
theorem mid_at (r : Fin 32768) (c : Fin 1024) : val_main_v4 (F := Ideal) x o y wo (ix2 r c)
    = Row.mid (fun k => x (ix2 r k)) (fun k => o (ix2 r k)) (fun k => y (ix2 r k)) (fun k c => wo (ix2 k c)) c := by
  pointwise [val_main_v4, val_main_v3, val_main_v2, val_main_v1, val_main_v0, Row.mid]

/-- Row `r` after the normalisation. -/
theorem norm_at (r : Fin 32768) (c : Fin 1024) : val_main_v17 (F := Ideal) x o y wo g (ix2 r c)
    = Row.norm (fun k => val_main_v4 (F := Ideal) x o y wo (ix2 r k)) (fun k => g (ix1 k)) c := by
  pointwise [val_main_v17, val_main_v16, val_main_v15, val_main_v14, val_main_v13, val_main_v12, val_main_v11, val_main_v10, val_main_v9, val_main_v8, val_main_v7, val_main_v6, val_main_v5, val_main_cst, val_main_cst_0, val_main_cst_1, Row.norm]

/-- The hidden units of row `r`. -/
theorem hidden_at (r : Fin 32768) (c : Fin 2816) : val_main_v22 (F := Ideal) x o y wo g wg (ix2 r c)
    = Row.hidden (fun k => val_main_v17 (F := Ideal) x o y wo g (ix2 r k)) (fun k c => wg (ix2 k c)) c := by
  pointwise [val_main_v22, val_main_v21, val_main_v20, val_main_v19, val_main_v18, val_main_call0_v5, val_main_call0_v4, val_main_call0_v3, val_main_call0_v2, val_main_call0_v1, val_main_call0_v0, val_main_call0_cst, val_main_call0_cst_0, Row.hidden, Row.glu, Row.proj]

/-- Row `r` of the result. -/
theorem out_at (r : Fin 32768) (c : Fin 1024) : val_main_v24 (F := Ideal) x o y wo g wg wd (ix2 r c)
    = Row.rowOut (fun k => x (ix2 r k)) (fun k => o (ix2 r k)) (fun k => y (ix2 r k)) (fun k c => wo (ix2 k c))
        (fun k => g (ix1 k)) (fun k c => wg (ix2 k c)) (fun k c => wd (ix2 k c)) c := by
  have hm := funext (mid_at x o y wo r)
  have hn := funext (norm_at x o y wo g r)
  have hh := funext (hidden_at x o y wo g wg r)
  pointwise [val_main_v24, val_main_v23, Row.rowOut, Row.ffn]
  rw [hm] at hn
  rw [hn] at hh
  exact congrArg₂ (· + ·) (congrFun hm c) (Finset.sum_congr rfl fun j _ => congrArg (· * wd (ix2 j c)) (congrFun hh j))

end Cert.Hand.FfnRef
end
-- ==== Proof.FfnFinal.lean ====
/-
  The feed-forward kernel's result array: every row is `Row.rowOut` of the same row of the operands, hence the reference's
  result.
-/
module

public import proofs.«01_k».proof.Proof.Gen.FfnIdeal.Value
public import proofs.«01_k».proof.Proof.FfnKernel
public import proofs.«01_k».proof.Proof.FfnRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand.FfnFinal
open Cert.FfnIdeal Cert.FfnIdeal.Gen

variable (m : (ℓ : Loc nD τ sig) → Buf (Elt Ideal) ℓ)

/-- The windows' block indices: rows move with the grid point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The reference's result over the kernel's arguments. -/
abbrev ref (c : Dev nD) : FVec Ideal S32768x1024 .f32 :=
  Cert.FfnRefIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What point `t` stores at row `r`, column `k` of its block is the reference's entry at row `512 t + r`. -/
theorem point (c : Dev nD) (t : Fin cfg0.N) (r : Fin 512) (k : Fin 1024) (R : Fin 32768) (hR : (R : ℕ) = t.val * 512 + r) :
    out0_7 (iblk m c 0 t) (iblk m c 1 t) (iblk m c 2 t) (iblk m c 3 t) (iblk m c 4 t) (iblk m c 5 t) (iblk m c 6 t) (ix2 r k)
      = ref m c (ix2 R k) := by
  refine Eq.trans ?_ (FfnRef.out_at _ _ _ _ _ _ _ R k).symm
  frame_out
  refine FfnKernel.body_at _ _ _ _ _ _ _ _ _ _ _ _ _ _ _ _ _ _ _ r ?_ ?_ ?_ ?_ ?_ ?_ ?_ ?_ ?_ ?_ ?_ ?_ k
  case refine_6 => intro j; blk_point [iblk, V, idx t]
  all_goals (intros; pointwise; blk_ext [iblk, V, idx t])

/-- The result array after the run is the reference's result. -/
theorem final (c : Dev nD) : (dats m 0 c).arrAt 7 (cfgs 0).N = ref m c := by
  refine (dats m 0 c).arrAt_eq_of_covers 7 _ (by decide +kernel) fun t _ y => ?_
  blk_simp
  rw [after0_7]
  idx_vars y
  have hN : t.val < 64 := lt_of_lt_of_eq t.isLt N_0
  refine (point m c t y0 y1 ⟨t.val * 512 + y0, by omega⟩ rfl).trans (congrArg (ref m c) ?_)
  blk_ext [idx t]

end Cert.Hand.FfnFinal
end
-- ==== Proof.AttnSpec.lean ====
/-
  Softmax attention with a sink, ONE QUERY ROW OF ONE HEAD at a time: its 256 scores, their maximum with the sink, the
  exponentials, the denominator and the output, in the two orders the programs use (`outDiv`: the weighted sum divided by
  the denominator; `outSum`: the sum of the divided weights). They are equal when no score and not the sink is `⊤`
  (`outDiv_eq_outSum`), and keys and values at masked positions do not matter (`score_congr`, `outSum_congr`).
-/
module

public import Idealize.ShloMosaic.Lib.Pointwise

@[expose] public section

set_option maxRecDepth 16384

noncomputable section

open Idealize.ShloMosaic Idealize.ShloMosaic.TcCoe Idealize.SL.Sem

namespace Cert.Hand.Attn

/-- The scale of the scores, `1/8`, by its bits. -/
abbrev c8 : EReal := Ideal.ofBits FTy.f32 1040187392#32

/-- The score of key `j`: the scaled dot product where the mask bit is set, `⊥` elsewhere. -/
def score (q : Fin 64 → EReal) (K : Fin 256 → Fin 64 → EReal) (M : Fin 256 → BitVec 1) (j : Fin 256) : EReal :=
  if M j = 1#1 then (∑ d, K j d * q d) * c8 else ⊥

/-- The maximum of the scores and the sink. -/
def top (s : Fin 256 → EReal) (sk : EReal) : EReal := max (Finset.univ.fold max ⊥ s) sk

/-- The unnormalised weight of key `j`. -/
def prob (s : Fin 256 → EReal) (sk : EReal) (j : Fin 256) : EReal := Ideal.exp (s j - top s sk)

/-- The denominator: the weights' sum and the sink's weight. -/
def den (s : Fin 256 → EReal) (sk : EReal) : EReal := ∑ j, prob s sk j + Ideal.exp (sk - top s sk)

/-- Output as the weighted sum of the values, divided. -/
def outDiv (s : Fin 256 → EReal) (sk : EReal) (v : Fin 256 → EReal) : EReal :=
  Ideal.div (∑ j, prob s sk j * v j) (den s sk)

/-- Output as the sum of the values weighted by the divided weights. -/
def outSum (s : Fin 256 → EReal) (sk : EReal) (v : Fin 256 → EReal) : EReal :=
  ∑ j, v j * Ideal.div (prob s sk j) (den s sk)

/-- Multiplication by a nonnegative real goes into a sum. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hr) (EReal.coe_ne_top r) _ _

/-- The scale is the real number `1/8`. -/
theorem c8_eq : c8 = ((1 / 8 : ℝ) : EReal) := by
  simp [Ideal.ofBits, Ideal.ieee, -EReal.coe_mul]; norm_num

/-- A scaled query row gives scaled scores. -/
theorem scaled_dot (q k : Fin 64 → EReal) : ∑ d, q d * c8 * k d = (∑ d, k d * q d) * c8 := by
  rw [c8_eq, sum_mul_coe _ _ _ (by norm_num)]
  exact Finset.sum_congr rfl fun d _ => by rw [mul_comm (k d), mul_right_comm]

/-- A sum of reals, taken as extended reals. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A finite sum of reals is a real. -/
theorem sum_real {ι : Type} (S : Finset ι) (f : ι → EReal) (h : ∀ i, ∃ r : ℝ, f i = r) : ∃ r : ℝ, ∑ i ∈ S, f i = r := by
  choose g hg using h
  refine ⟨∑ i ∈ S, g i, ?_⟩
  rw [coe_sum]
  exact Finset.sum_congr rfl fun i _ => hg i

/-- With finite queries and keys no score is `⊤`. -/
theorem score_ne_top (q : Fin 64 → EReal) (K : Fin 256 → Fin 64 → EReal) (M : Fin 256 → BitVec 1)
    (hq : ∀ d, ∃ r : ℝ, q d = r) (hK : ∀ j, M j = 1#1 → ∀ d, ∃ r : ℝ, K j d = r) (j : Fin 256) : score q K M j ≠ ⊤ := by
  unfold score
  split
  · next h =>
    obtain ⟨r, hr⟩ := sum_real Finset.univ (fun d => K j d * q d) fun d => by
      obtain ⟨a, ha⟩ := hK j h d
      obtain ⟨b, hb⟩ := hq d
      exact ⟨a * b, by rw [ha, hb, EReal.coe_mul]⟩
    rw [hr, c8_eq, ← EReal.coe_mul]
    exact EReal.coe_ne_top _
  · exact bot_ne_top

/-- Keys at masked positions do not matter. -/
theorem score_congr (q : Fin 64 → EReal) (K K' : Fin 256 → Fin 64 → EReal) (M : Fin 256 → BitVec 1)
    (h : ∀ j, M j = 1#1 → ∀ d, K j d = K' j d) : score q K M = score q K' M := by
  funext j
  unfold score
  split
  · next hj => rw [Finset.sum_congr rfl fun d _ => by rw [h j hj d]]
  · rfl

/-- A masked position has weight zero. -/
theorem prob_masked (q : Fin 64 → EReal) (K : Fin 256 → Fin 64 → EReal) (M : Fin 256 → BitVec 1) (sk : EReal) (j : Fin 256)
    (h : ¬ M j = 1#1) : prob (score q K M) sk j = 0 := by
  rw [prob, score, if_neg h, EReal.bot_sub]
  exact Ideal.exp_bot

/-- Values at masked positions do not matter. -/
theorem outDiv_congr (q : Fin 64 → EReal) (K : Fin 256 → Fin 64 → EReal) (M : Fin 256 → BitVec 1) (sk : EReal)
    (v v' : Fin 256 → EReal) (h : ∀ j, M j = 1#1 → v j = v' j) :
    outDiv (score q K M) sk v = outDiv (score q K M) sk v' := by
  unfold outDiv
  refine congrArg (Ideal.div · _) (Finset.sum_congr rfl fun j _ => ?_)
  by_cases hj : M j = 1#1
  · rw [h j hj]
  · rw [prob_masked _ _ _ _ _ hj, zero_mul, zero_mul]

/-- The maximum is a real number: at least the sink, and no score is `⊤`. -/
theorem top_real (s : Fin 256 → EReal) (sk : ℝ) (hs : ∀ j, s j ≠ ⊤) : ∃ r : ℝ, top s sk = r := by
  have h1 : top s sk ≠ ⊤ := by
    unfold top
    refine ne_of_lt (max_lt ((Finset.fold_max_lt _).mpr ⟨bot_lt_top, fun j _ => lt_top_iff_ne_top.mpr (hs j)⟩) (EReal.coe_lt_top _))
  have h2 : top s sk ≠ ⊥ := ne_of_gt (lt_of_lt_of_le (EReal.bot_lt_coe sk) (le_max_right _ _))
  exact ⟨(top s sk).toReal, (EReal.coe_toReal h1 h2).symm⟩

/-- Every weight is a nonnegative real. -/
theorem prob_real (s : Fin 256 → EReal) (sk : ℝ) (hs : ∀ j, s j ≠ ⊤) (j : Fin 256) : ∃ r : ℝ, 0 ≤ r ∧ prob s sk j = r := by
  obtain ⟨t, ht⟩ := top_real s sk hs
  unfold prob
  rw [ht]
  have h := hs j
  generalize s j = x at h
  induction x using EReal.rec with
  | bot => exact ⟨0, le_rfl, by rw [EReal.bot_sub]; exact Ideal.exp_bot⟩
  | top => exact absurd rfl h
  | coe r => exact ⟨Real.exp (r - t), (Real.exp_pos _).le, by rw [← EReal.coe_sub]; exact Ideal.exp_coe _⟩

/-- The denominator is a positive real. -/
theorem den_real (s : Fin 256 → EReal) (sk : ℝ) (hs : ∀ j, s j ≠ ⊤) : ∃ r : ℝ, 0 < r ∧ den s sk = r := by
  obtain ⟨t, ht⟩ := top_real s sk hs
  choose p hp0 hp using prob_real s sk hs
  refine ⟨∑ j, p j + Real.exp (sk - t), add_pos_of_nonneg_of_pos (Finset.sum_nonneg fun j _ => hp0 j) (Real.exp_pos _), ?_⟩
  unfold den
  rw [ht, ← EReal.coe_sub, EReal.coe_add, coe_sum]
  exact congrArg₂ (· + ·) (Finset.sum_congr rfl fun j _ => hp j) (Ideal.exp_coe _)

/-- The two orders agree when the scores and the sink are below `⊤`. -/
theorem outDiv_eq_outSum (s : Fin 256 → EReal) (sk : ℝ) (hs : ∀ j, s j ≠ ⊤) (v : Fin 256 → EReal) :
    outDiv s sk v = outSum s sk v := by
  obtain ⟨r, hr, h⟩ := den_real s sk hs
  unfold outDiv outSum
  rw [h, Ideal.div_coe hr.ne', sum_mul_coe _ _ _ (one_div_nonneg.mpr hr.le)]
  refine Finset.sum_congr rfl fun j _ => ?_
  rw [Ideal.div_coe hr.ne', mul_comm (prob s sk j), mul_assoc]

/-- The window test of the kernel and of the reference: key `j` lies in the 128 positions up to query `r`. -/
def band (r : Fin 128) (j : Fin 256) : BitVec 1 :=
  IntOp.andi
    (IntOp.cmpi CmpIPredicate.sge (IntOp.subi (IntOp.addi (BitVec.ofNat 32 ↑r) 128#32) (BitVec.ofNat 32 ↑j)) 0#32)
    (IntOp.cmpi CmpIPredicate.slt (IntOp.subi (IntOp.addi (BitVec.ofNat 32 ↑r) 128#32) (BitVec.ofNat 32 ↑j)) 128#32)

/-- The mask bit of block `n`: in the window, and no key before the sequence's first. -/
def bit (n : Fin 64) (r : Fin 128) (j : Fin 256) : BitVec 1 :=
  IntOp.andi (band r j) (IntOp.ori (IntOp.cmpi CmpIPredicate.sgt (BitVec.ofNat 32 ↑n) 0#32)
    (IntOp.cmpi CmpIPredicate.sge (BitVec.ofNat 32 ↑j) 128#32))

/-- After block 0 the mask is the window. -/
theorem bit_pos (n : Fin 64) (hn : 1 ≤ (n : ℕ)) (r : Fin 128) (j : Fin 256) : bit n r j = band r j := by
  have h : IntOp.cmpi CmpIPredicate.sgt (BitVec.ofNat 32 (n : ℕ)) 0#32 = 1#1 := by
    revert n; decide
  unfold bit
  rw [h]
  generalize band r j = x
  generalize IntOp.cmpi CmpIPredicate.sge (BitVec.ofNat 32 (j : ℕ)) 128#32 = y
  revert x y; decide

/-- Where the mask is set the key is in the sequence. -/
theorem bit_in (n : Fin 64) (r : Fin 128) (j : Fin 256) (h : bit n r j = 1#1) : 1 ≤ (n : ℕ) ∨ 128 ≤ (j : ℕ) := by
  by_contra hc
  have hn : n = 0 := Fin.ext (by omega)
  subst hn
  have hj : IntOp.cmpi CmpIPredicate.sge (BitVec.ofNat 32 (j : ℕ)) 128#32 = 0#1 :=
    (by decide : ∀ j : Fin 256, ¬ 128 ≤ (j : ℕ) → IntOp.cmpi CmpIPredicate.sge (BitVec.ofNat 32 (j : ℕ)) 128#32 = 0#1) j (by omega)
  unfold bit at h
  rw [hj] at h
  generalize band r j = x at h
  revert x; decide

/-- The position of key `j` of block `n`'s window of 256 keys: it starts 128 before the block. -/
def pos (n : Fin 64) (j : Fin 256) : Fin 8192 := ⟨128 * n + j - 128, by omega⟩

/-- The attention of batch `b`, block `n`, row `r`, head `h`, dimension `d`; four query heads share a key head. -/
def entry (q : FVec Ideal ⟨3, ![4, 8192, 512]⟩ .f32) (k v : FVec Ideal ⟨3, ![4, 8192, 128]⟩ .f32) (s : FVec Ideal ⟨1, ![8]⟩ .f32)
    (b : Fin 4) (n : Fin 64) (r : Fin 128) (h : Fin 8) (d : Fin 64) : EReal :=
  outDiv (score (fun d => q (ix3 b (⟨128 * n + r, by omega⟩ : Fin 8192) (⟨64 * h + d, by omega⟩ : Fin 512)))
      (fun j d => k (ix3 b (pos n j) (⟨64 * ((h : ℕ) / 4) + d, by omega⟩ : Fin 128))) (bit n r))
    (s (ix1 h)) (fun j => v (ix3 b (pos n j) (⟨64 * ((h : ℕ) / 4) + d, by omega⟩ : Fin 128)))

end Cert.Hand.Attn
end
-- ==== Proof.AttnKernel.lean ====
/-
  The attention kernel's arithmetic for one block of 128 query rows and one pair of heads, stated once (`pairOut`) for the
  sixteen stores of a grid point, and read at one entry: lane `c` of the pair's output is the attention output of head
  `c / 64` of the pair at dimension `c % 64` (`pair_low`, `pair_high`).
-/
module

public import proofs.«01_k».proof.Proof.Gen.AttnIdeal.Skeleton
public import proofs.«01_k».proof.Proof.AttnSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.AttnKernel
open Cert.AttnIdeal Cert.AttnIdeal.Gen

/-- The masked scores of one head: queries (the other head's lanes zeroed) against the keys. -/
def scores (B : IVec S128x256 1) (qh : FVec Ideal S128x128 .bf16) (kh : FVec Ideal S256x128 .bf16) : FVec Ideal S128x256 .f32 :=
  select B (matmul dot_S128x128_S256x128_S128x256_1_1_0_0_n_n none qh kh (constant S128x256 .f32 0x00000000#32))
    (broadcast S128x256 (Scalar.ofBits .f32 0xFF800000#32))

/-- The maximum of a row's scores and the sink, as a column. -/
def colTop (s : FVec Ideal S128x256 .f32) (sk : Elt Ideal .f32) : FVec Ideal S128x1 .f32 :=
  maximumf (shapeCast S128x1 (multiReduction .maximumf [1] S128 s 0xFF800000#32 reduces_S128x256_S128 (.inl rfl) rfl) shapeCasts_S128_S128x1)
    (broadcast S128x1 sk)

/-- The unnormalised weights. -/
def weights (s : FVec Ideal S128x256 .f32) (sk : Elt Ideal .f32) : FVec Ideal S128x256 .f32 :=
  exp (subf s (broadcastTo S128x256 (colTop s sk) broadcasts_S128x1_S128x256))

/-- The denominators, as a column. -/
def colDen (s : FVec Ideal S128x256 .f32) (sk : Elt Ideal .f32) : FVec Ideal S128x1 .f32 :=
  addf (shapeCast S128x1 (multiReduction .add [1] S128 (weights s sk) 0x00000000#32 reduces_S128x256_S128 (.inl rfl) rfl) shapeCasts_S128_S128x1)
    (exp (subf (broadcast S128x1 sk) (colTop s sk)))

/-- One head's output over all 128 lanes of its values. -/
def headOut (s : FVec Ideal S128x256 .f32) (sk : Elt Ideal .f32) (vh : FVec Ideal S256x128 .bf16) : FVec Ideal S128x128 .f32 :=
  divf (matmul dot_S128x256_S256x128_S128x128_1_0_0_1_n_n none (truncf .bf16 (weights s sk) bitsLt_bf16_f32) vh (constant S128x128 .f32 0x00000000#32))
    (broadcastTo S128x128 (colDen s sk) broadcasts_S128x1_S128x128)

/-- The query tile as a matrix. -/
def tile (q : Vec Ideal S1x128x128 .bf16) : FVec Ideal S128x128 .bf16 := shapeCast S128x128 q shapeCasts_S1x128x128_S128x128

/-- The pair's output: the first head in the low 64 lanes, the second in the high 64. -/
def pairOut (B : IVec S128x256 1) (q : Vec Ideal S1x128x128 .bf16) (k0 k1 v0 v1 : FVec Ideal S256x128 .bf16) (s0 s1 : Elt Ideal .f32) :
    FVec Ideal S1x128x128 .bf16 :=
  shapeCast S1x128x128 (truncf .bf16 (select k0_pay2
    (headOut (scores B (select k0_pay2 (tile q) k0_pay4) k0) s0 v0)
    (headOut (scores B (select (xori k0_pay2 (constantI S128x128 1 1#1)) (tile q) k0_pay4) k1) s1 v1)) bitsLt_bf16_f32)
    shapeCasts_S128x128_S1x128x128

/-- Lanes 0–127 of the keys or values. -/
def lanesA (x : FVec Ideal S256x256 .bf16) : FVec Ideal S256x128 .bf16 := extractStridedSlice S256x128 ![0, 0] x slices_S256x256_o0_0_S256x128

/-- Lanes 128–255. -/
def lanesB (x : FVec Ideal S256x256 .bf16) : FVec Ideal S256x128 .bf16 := extractStridedSlice S256x128 ![0, 128] x slices_S256x256_o0_128_S256x128

/-- The lower bound the maxima start from. -/
theorem neg_inf : Ideal.ofBits FTy.f32 4286578688#32 = ⊥ := by
  simp [Ideal.ofBits, Ideal.ieee]

theorem top_at (s : FVec Ideal S128x256 .f32) (sk : EReal) (r : Fin 128) :
    colTop s sk (ix2 r (0 : Fin 1)) = Attn.top (fun j => s (ix2 r j)) sk := by
  pointwise [colTop, Attn.top]
  rw [neg_inf]

theorem weight_at (s : FVec Ideal S128x256 .f32) (sk : EReal) (r : Fin 128) (j : Fin 256) :
    weights s sk (ix2 r j) = Attn.prob (fun j => s (ix2 r j)) sk j := by
  pointwise [weights, top_at, Attn.prob]

theorem den_at (s : FVec Ideal S128x256 .f32) (sk : EReal) (r : Fin 128) :
    colDen s sk (ix2 r (0 : Fin 1)) = Attn.den (fun j => s (ix2 r j)) sk := by
  pointwise [colDen, top_at, weight_at, Attn.den]

theorem head_at (s : FVec Ideal S128x256 .f32) (sk : EReal) (v : FVec Ideal S256x128 .bf16) (r : Fin 128) (c : Fin 128) :
    headOut s sk v (ix2 r c) = Attn.outDiv (fun j => s (ix2 r j)) sk (fun j => v (ix2 j c)) := by
  pointwise [headOut, weight_at, den_at, Attn.outDiv]

/-- A sum over 128 lanes, in its two halves. -/
theorem sum_lanes (f : Fin 128 → EReal) :
    ∑ l, f l = ∑ d : Fin 64, f ⟨d, by omega⟩ + ∑ d : Fin 64, f ⟨64 + d, by omega⟩ :=
  Fin.sum_univ_two_halves 64 64 rfl f

/-- The lane test holds in the low half. -/
theorem lane_low : ∀ d : Fin 64, IntOp.cmpi CmpIPredicate.slt (BitVec.ofNat 32 (d : ℕ)) 64#32 = 1#1 := by decide

/-- The lane test fails in the high half. -/
theorem lane_high : ∀ d : Fin 64, IntOp.cmpi CmpIPredicate.slt (BitVec.ofNat 32 (64 + (d : ℕ))) 64#32 = 0#1 := by decide

theorem low_at (r : Fin 128) (d : Fin 64) : k0_pay2 (ix2 r (⟨d, by omega⟩ : Fin 128)) = 1#1 := by
  pointwise [k0_pay2]; exact lane_low d

theorem high_at (r : Fin 128) (d : Fin 64) : k0_pay2 (ix2 r (⟨64 + d, by omega⟩ : Fin 128)) = 0#1 := by
  pointwise [k0_pay2]; exact lane_high d

theorem select_one (a b : EReal) : Scalar.select 1#1 a b = a := rfl

theorem select_zero (a b : EReal) : Scalar.select 0#1 a b = b := rfl

/-- The scores of the pair's first head use the low lanes only. -/
theorem score_low (B : IVec S128x256 1) (q : Vec Ideal S1x128x128 .bf16) (kh : FVec Ideal S256x128 .bf16) (r : Fin 128) (j : Fin 256) :
    scores B (select k0_pay2 (tile q) k0_pay4) kh (ix2 r j)
      = if B (ix2 r j) = 1#1 then ∑ d : Fin 64, q (ix3 (0 : Fin 1) r (⟨d, by omega⟩ : Fin 128)) * kh (ix2 j (⟨d, by omega⟩ : Fin 128)) else ⊥ := by
  pointwise [scores, tile, k0_pay2, k0_pay4, sum_lanes]
  simp only [lane_low, lane_high, select_one, select_zero, Finset.sum_const_zero, add_zero, neg_inf]
  rfl

/-- The scores of the pair's second head use the high lanes only. -/
theorem score_high (B : IVec S128x256 1) (q : Vec Ideal S1x128x128 .bf16) (kh : FVec Ideal S256x128 .bf16) (r : Fin 128) (j : Fin 256) :
    scores B (select (xori k0_pay2 (constantI S128x128 1 1#1)) (tile q) k0_pay4) kh (ix2 r j)
      = if B (ix2 r j) = 1#1 then ∑ d : Fin 64, q (ix3 (0 : Fin 1) r (⟨64 + d, by omega⟩ : Fin 128)) * kh (ix2 j (⟨64 + d, by omega⟩ : Fin 128)) else ⊥ := by
  pointwise [scores, tile, k0_pay2, k0_pay4, sum_lanes]
  simp only [lane_low, lane_high, show IntOp.xori (1#1) (1#1) = 0#1 from rfl, show IntOp.xori (0#1) (1#1) = 1#1 from rfl, select_one, select_zero,
    Finset.sum_const_zero, zero_add, neg_inf]
  rfl

/-- Scores from scaled queries are the scaled scores; keys where the mask is off do not matter. -/
theorem score_eq (qv q : Fin 64 → EReal) (k K : Fin 256 → Fin 64 → EReal) (M : Fin 256 → BitVec 1) (hq : ∀ d, q d = qv d * Attn.c8)
    (hk : ∀ j, M j = 1#1 → ∀ d, k j d = K j d) (j : Fin 256) :
    (if M j = 1#1 then ∑ d, q d * k j d else ⊥) = Attn.score qv K M j := by
  unfold Attn.score
  split
  · next h => rw [← Attn.scaled_dot]; exact Finset.sum_congr rfl fun d _ => by rw [hq, hk j h]
  · rfl

/-- The pair's low lanes hold its first head. -/
theorem pair_low (B : IVec S128x256 1) (q : Vec Ideal S1x128x128 .bf16) (k0 k1 v0 v1 : FVec Ideal S256x128 .bf16) (s0 s1 : Elt Ideal .f32)
    (r : Fin 128) (d : Fin 64) (qv : Fin 64 → EReal) (K : Fin 256 → Fin 64 → EReal) (V : Fin 256 → EReal) (M : Fin 256 → BitVec 1)
    (hM : ∀ j, B (ix2 r j) = M j) (hq : ∀ d : Fin 64, q (ix3 (0 : Fin 1) r (⟨d, by omega⟩ : Fin 128)) = qv d * Attn.c8)
    (hk : ∀ j, M j = 1#1 → ∀ d : Fin 64, k0 (ix2 j (⟨d, by omega⟩ : Fin 128)) = K j d)
    (hv : ∀ j, M j = 1#1 → v0 (ix2 j (⟨d, by omega⟩ : Fin 128)) = V j) :
    pairOut B q k0 k1 v0 v1 s0 s1 (ix3 (0 : Fin 1) r (⟨d, by omega⟩ : Fin 128)) = Attn.outDiv (Attn.score qv K M) s0 V := by
  refine Eq.trans ?_ (Attn.outDiv_congr qv K M s0 _ V hv)
  pointwise [pairOut, head_at, low_at, select_one]
  refine congrArg (fun s => Attn.outDiv s s0 _) (funext fun j => ?_)
  rw [score_low, hM]
  exact score_eq qv _ _ K M hq hk j

/-- The pair's high lanes hold its second head. -/
theorem pair_high (B : IVec S128x256 1) (q : Vec Ideal S1x128x128 .bf16) (k0 k1 v0 v1 : FVec Ideal S256x128 .bf16) (s0 s1 : Elt Ideal .f32)
    (r : Fin 128) (d : Fin 64) (qv : Fin 64 → EReal) (K : Fin 256 → Fin 64 → EReal) (V : Fin 256 → EReal) (M : Fin 256 → BitVec 1)
    (hM : ∀ j, B (ix2 r j) = M j) (hq : ∀ d : Fin 64, q (ix3 (0 : Fin 1) r (⟨64 + d, by omega⟩ : Fin 128)) = qv d * Attn.c8)
    (hk : ∀ j, M j = 1#1 → ∀ d : Fin 64, k1 (ix2 j (⟨64 + d, by omega⟩ : Fin 128)) = K j d)
    (hv : ∀ j, M j = 1#1 → v1 (ix2 j (⟨64 + d, by omega⟩ : Fin 128)) = V j) :
    pairOut B q k0 k1 v0 v1 s0 s1 (ix3 (0 : Fin 1) r (⟨64 + d, by omega⟩ : Fin 128)) = Attn.outDiv (Attn.score qv K M) s1 V := by
  refine Eq.trans ?_ (Attn.outDiv_congr qv K M s1 _ V hv)
  pointwise [pairOut, head_at, high_at, select_zero]
  refine congrArg (fun s => Attn.outDiv s s1 _) (funext fun j => ?_)
  rw [score_high, hM]
  exact score_eq qv _ _ K M hq hk j

theorem band_at (r : Fin 128) (j : Fin 256) : k0_pay3 (ix2 r j) = Attn.band r j := by
  pointwise [k0_pay3, Attn.band]

theorem mask0_at (i : grid0.Coords) (r : Fin 128) (j : Fin 256) :
    k0_pay5 i (ix2 r j) = IntOp.andi (Attn.band r j) (IntOp.ori (Scalar.cmpi CmpIPredicate.sgt (BitVec.ofNat 32 ↑(i 1)) 0#32)
        (IntOp.cmpi CmpIPredicate.sge (BitVec.ofNat 32 ↑j) 128#32)) := by
  pointwise [k0_pay5, band_at]

end Cert.Hand.AttnKernel
end
-- ==== Proof.AttnTile.lean ====
/-
  One block of 128 queries and one pair of heads of the attention kernel, from the tiles it loads to the entries of the
  attention (`tile_first`: the pairs of the first key head, `tile_second`: those of the second).
-/
module

public import proofs.«01_k».proof.Proof.AttnKernel

@[expose] public section

set_option maxRecDepth 16384

noncomputable section

open Idealize.ShloMosaic Idealize.ShloMosaic.TcCoe Idealize.SL.Sem

namespace Cert.Hand.AttnTile
open Cert.AttnIdeal Cert.AttnIdeal.Gen Cert.Hand.AttnKernel

/-- The lane of the packed keys' lane `l`: the 128 lanes, then the same with their halves exchanged. -/
def lane (l : Fin 256) : Fin 128 := ⟨if (l : ℕ) < 128 then l else ((l : ℕ) + 64) % 128, by split <;> omega⟩

/-- The stacked tiles, previous block over current, are the window's rows of the array. -/
theorem cat_at (X : FVec Ideal ⟨3, ![4, 8192, 128]⟩ .f32) (A T : Vec Ideal S1x128x256 .bf16) (b : Fin 4) (n : Fin 64)
    (hA : ∀ (r : Fin 128) (l : Fin 256), 1 ≤ (n : ℕ) → A (ix3 (0 : Fin 1) r l) = X (ix3 b (⟨128 * n + r - 128, by omega⟩ : Fin 8192) (lane l)))
    (hT : ∀ (r : Fin 128) (l : Fin 256), T (ix3 (0 : Fin 1) r l) = X (ix3 b (⟨128 * n + r, by omega⟩ : Fin 8192) (lane l)))
    (j : Fin 256) (hj : 1 ≤ (n : ℕ) ∨ 128 ≤ (j : ℕ)) (l : Fin 256) :
    k0_pay6 A T (ix2 j l) = X (ix3 b (Attn.pos n j) (lane l)) := by
  pointwise [k0_pay6]
  split
  · next h =>
    refine (hA ⟨j, h⟩ l (by omega)).trans ?_
    rfl
  · next h =>
    refine (hT ⟨j - 128, by omega⟩ l).trans (congrArg (fun p => X (ix3 b p (lane l))) (Fin.ext ?_))
    show 128 * (n : ℕ) + (j - 128) = 128 * n + j - 128
    omega

variable (q : FVec Ideal ⟨3, ![4, 8192, 512]⟩ .f32) (k v : FVec Ideal ⟨3, ![4, 8192, 128]⟩ .f32) (s : FVec Ideal ⟨1, ![8]⟩ .f32)

/-- A pair's output from what its key and value tiles hold: one key head for both query heads. -/
theorem pair_entry (B : IVec S128x256 1) (Q : Vec Ideal S1x128x128 .bf16) (k0 k1 v0 v1 : FVec Ideal S256x128 .bf16) (s0 s1 : Elt Ideal .f32)
    (b : Fin 4) (n : Fin 64) (pr : Fin 4) (hB : ∀ (r : Fin 128) (j : Fin 256), B (ix2 r j) = Attn.bit n r j)
    (hQ : ∀ (r l : Fin 128), Q (ix3 (0 : Fin 1) r l)
      = q (ix3 b (⟨128 * n + r, by omega⟩ : Fin 8192) (⟨128 * pr + l, by omega⟩ : Fin 512)) * Attn.c8)
    (hk0 : ∀ j : Fin 256, 1 ≤ (n : ℕ) ∨ 128 ≤ (j : ℕ) → ∀ d : Fin 64, k0 (ix2 j (⟨d, by omega⟩ : Fin 128))
      = k (ix3 b (Attn.pos n j) (⟨64 * ((pr : ℕ) / 2) + d, by omega⟩ : Fin 128)))
    (hk1 : ∀ j : Fin 256, 1 ≤ (n : ℕ) ∨ 128 ≤ (j : ℕ) → ∀ d : Fin 64, k1 (ix2 j (⟨64 + d, by omega⟩ : Fin 128))
      = k (ix3 b (Attn.pos n j) (⟨64 * ((pr : ℕ) / 2) + d, by omega⟩ : Fin 128)))
    (hv0 : ∀ j : Fin 256, 1 ≤ (n : ℕ) ∨ 128 ≤ (j : ℕ) → ∀ d : Fin 64, v0 (ix2 j (⟨d, by omega⟩ : Fin 128))
      = v (ix3 b (Attn.pos n j) (⟨64 * ((pr : ℕ) / 2) + d, by omega⟩ : Fin 128)))
    (hv1 : ∀ j : Fin 256, 1 ≤ (n : ℕ) ∨ 128 ≤ (j : ℕ) → ∀ d : Fin 64, v1 (ix2 j (⟨64 + d, by omega⟩ : Fin 128))
      = v (ix3 b (Attn.pos n j) (⟨64 * ((pr : ℕ) / 2) + d, by omega⟩ : Fin 128)))
    (hs0 : s0 = s (ix1 (⟨2 * pr, by omega⟩ : Fin 8))) (hs1 : s1 = s (ix1 (⟨2 * pr + 1, by omega⟩ : Fin 8)))
    (r : Fin 128) (l : Fin 128) :
    pairOut B Q k0 k1 v0 v1 s0 s1 (ix3 (0 : Fin 1) r l)
      = Attn.entry q k v s b n r (⟨2 * pr + (l : ℕ) / 64, by omega⟩ : Fin 8) (⟨(l : ℕ) % 64, by omega⟩ : Fin 64) := by
  have hg : (2 * (pr : ℕ) + (l : ℕ) / 64) / 4 = (pr : ℕ) / 2 := by omega
  unfold Attn.entry
  simp only [hg]
  by_cases hl : (l : ℕ) < 64
  · have e0 : (l : ℕ) / 64 = 0 := by omega
    have e1 : (l : ℕ) % 64 = l := by omega
    simp only [e0, e1, add_zero]
    rw [← hs0]
    refine pair_low B Q k0 k1 v0 v1 s0 s1 r ⟨l, hl⟩ _ _ _ (Attn.bit n r) (hB r)
      (fun d => (hQ r _).trans (congrArg (fun p => q (ix3 b _ p) * Attn.c8) (Fin.ext ?_)))
      (fun j hj d => hk0 j (Attn.bit_in n r j hj) d) (fun j hj => hv0 j (Attn.bit_in n r j hj) ⟨l, hl⟩)
    show 128 * (pr : ℕ) + d = 64 * (2 * pr) + d
    omega
  · have e0 : (l : ℕ) / 64 = 1 := by omega
    have e1 : (l : ℕ) % 64 = l - 64 := by omega
    have e2 : l = ⟨64 + (⟨l - 64, by omega⟩ : Fin 64), by simp only; omega⟩ := Fin.ext (by simp only; omega)
    simp only [e0, e1]
    rw [← hs1]
    conv_lhs => rw [e2]
    refine pair_high B Q k0 k1 v0 v1 s0 s1 r ⟨l - 64, by omega⟩ _ _ _ (Attn.bit n r) (hB r)
      (fun d => (hQ r _).trans (congrArg (fun p => q (ix3 b _ p) * Attn.c8) (Fin.ext ?_)))
      (fun j hj d => hk1 j (Attn.bit_in n r j hj) d) (fun j hj => hv1 j (Attn.bit_in n r j hj) ⟨l - 64, by omega⟩)
    show 128 * (pr : ℕ) + (64 + d) = 64 * (2 * pr + 1) + d
    omega

/-- The pairs of the first key head read its lanes: low as they are, high from the exchanged copy. -/
theorem tile_first (B : IVec S128x256 1) (Q : Vec Ideal S1x128x128 .bf16) (A T A' T' : Vec Ideal S1x128x256 .bf16) (s0 s1 : Elt Ideal .f32)
    (b : Fin 4) (n : Fin 64) (pr : Fin 4) (hpr : (pr : ℕ) < 2) (hB : ∀ (r : Fin 128) (j : Fin 256), B (ix2 r j) = Attn.bit n r j)
    (hQ : ∀ (r l : Fin 128), Q (ix3 (0 : Fin 1) r l)
      = q (ix3 b (⟨128 * n + r, by omega⟩ : Fin 8192) (⟨128 * pr + l, by omega⟩ : Fin 512)) * Attn.c8)
    (hA : ∀ (r : Fin 128) (l : Fin 256), 1 ≤ (n : ℕ) → A (ix3 (0 : Fin 1) r l) = k (ix3 b (⟨128 * n + r - 128, by omega⟩ : Fin 8192) (lane l)))
    (hT : ∀ (r : Fin 128) (l : Fin 256), T (ix3 (0 : Fin 1) r l) = k (ix3 b (⟨128 * n + r, by omega⟩ : Fin 8192) (lane l)))
    (hA' : ∀ (r : Fin 128) (l : Fin 256), 1 ≤ (n : ℕ) → A' (ix3 (0 : Fin 1) r l) = v (ix3 b (⟨128 * n + r - 128, by omega⟩ : Fin 8192) (lane l)))
    (hT' : ∀ (r : Fin 128) (l : Fin 256), T' (ix3 (0 : Fin 1) r l) = v (ix3 b (⟨128 * n + r, by omega⟩ : Fin 8192) (lane l)))
    (hs0 : s0 = s (ix1 (⟨2 * pr, by omega⟩ : Fin 8))) (hs1 : s1 = s (ix1 (⟨2 * pr + 1, by omega⟩ : Fin 8)))
    (r : Fin 128) (l : Fin 128) :
    pairOut B Q (lanesA (k0_pay6 A T)) (lanesB (k0_pay6 A T)) (lanesA (k0_pay6 A' T')) (lanesB (k0_pay6 A' T')) s0 s1 (ix3 (0 : Fin 1) r l)
      = Attn.entry q k v s b n r (⟨2 * pr + (l : ℕ) / 64, by omega⟩ : Fin 8) (⟨(l : ℕ) % 64, by omega⟩ : Fin 64) := by
  have low : ∀ d : Fin 64, lane (⟨d, by omega⟩ : Fin 256) = ⟨64 * ((pr : ℕ) / 2) + d, by omega⟩ := fun d => Fin.ext (by
    simp only [lane]; split <;> omega)
  have high : ∀ d : Fin 64, lane (⟨128 + (64 + d), by omega⟩ : Fin 256) = ⟨64 * ((pr : ℕ) / 2) + d, by omega⟩ := fun d => Fin.ext (by
    simp only [lane]; split <;> omega)
  refine pair_entry q k v s B Q _ _ _ _ s0 s1 b n pr hB hQ ?_ ?_ ?_ ?_ hs0 hs1 r l <;> intro j hj d
  · rw [← low d, ← cat_at k A T b n hA hT j hj]; pointwise [lanesA]
  · rw [← high d, ← cat_at k A T b n hA hT j hj]; pointwise [lanesB]
  · rw [← low d, ← cat_at v A' T' b n hA' hT' j hj]; pointwise [lanesA]
  · rw [← high d, ← cat_at v A' T' b n hA' hT' j hj]; pointwise [lanesB]

/-- The pairs of the second key head: low from the exchanged copy, high as they are. -/
theorem tile_second (B : IVec S128x256 1) (Q : Vec Ideal S1x128x128 .bf16) (A T A' T' : Vec Ideal S1x128x256 .bf16) (s0 s1 : Elt Ideal .f32)
    (b : Fin 4) (n : Fin 64) (pr : Fin 4) (hpr : 2 ≤ (pr : ℕ)) (hB : ∀ (r : Fin 128) (j : Fin 256), B (ix2 r j) = Attn.bit n r j)
    (hQ : ∀ (r l : Fin 128), Q (ix3 (0 : Fin 1) r l)
      = q (ix3 b (⟨128 * n + r, by omega⟩ : Fin 8192) (⟨128 * pr + l, by omega⟩ : Fin 512)) * Attn.c8)
    (hA : ∀ (r : Fin 128) (l : Fin 256), 1 ≤ (n : ℕ) → A (ix3 (0 : Fin 1) r l) = k (ix3 b (⟨128 * n + r - 128, by omega⟩ : Fin 8192) (lane l)))
    (hT : ∀ (r : Fin 128) (l : Fin 256), T (ix3 (0 : Fin 1) r l) = k (ix3 b (⟨128 * n + r, by omega⟩ : Fin 8192) (lane l)))
    (hA' : ∀ (r : Fin 128) (l : Fin 256), 1 ≤ (n : ℕ) → A' (ix3 (0 : Fin 1) r l) = v (ix3 b (⟨128 * n + r - 128, by omega⟩ : Fin 8192) (lane l)))
    (hT' : ∀ (r : Fin 128) (l : Fin 256), T' (ix3 (0 : Fin 1) r l) = v (ix3 b (⟨128 * n + r, by omega⟩ : Fin 8192) (lane l)))
    (hs0 : s0 = s (ix1 (⟨2 * pr, by omega⟩ : Fin 8))) (hs1 : s1 = s (ix1 (⟨2 * pr + 1, by omega⟩ : Fin 8)))
    (r : Fin 128) (l : Fin 128) :
    pairOut B Q (lanesB (k0_pay6 A T)) (lanesA (k0_pay6 A T)) (lanesB (k0_pay6 A' T')) (lanesA (k0_pay6 A' T')) s0 s1 (ix3 (0 : Fin 1) r l)
      = Attn.entry q k v s b n r (⟨2 * pr + (l : ℕ) / 64, by omega⟩ : Fin 8) (⟨(l : ℕ) % 64, by omega⟩ : Fin 64) := by
  have low : ∀ d : Fin 64, lane (⟨128 + d, by omega⟩ : Fin 256) = ⟨64 * ((pr : ℕ) / 2) + d, by omega⟩ := fun d => Fin.ext (by
    simp only [lane]; split <;> omega)
  have high : ∀ d : Fin 64, lane (⟨64 + d, by omega⟩ : Fin 256) = ⟨64 * ((pr : ℕ) / 2) + d, by omega⟩ := fun d => Fin.ext (by
    simp only [lane]; split <;> omega)
  refine pair_entry q k v s B Q _ _ _ _ s0 s1 b n pr hB hQ ?_ ?_ ?_ ?_ hs0 hs1 r l <;> intro j hj d
  · rw [← low d, ← cat_at k A T b n hA hT j hj]; pointwise [lanesB]
  · rw [← high d, ← cat_at k A T b n hA hT j hj]; pointwise [lanesA]
  · rw [← low d, ← cat_at v A' T' b n hA' hT' j hj]; pointwise [lanesB]
  · rw [← high d, ← cat_at v A' T' b n hA' hT' j hj]; pointwise [lanesA]

end Cert.Hand.AttnTile
end
-- ==== Proof.AttnStore.lean ====
/-
  The sixteen values a grid point of the attention kernel stores, each of them `first` or `second` of the tiles it loads:
  block `a` of 128 rows and pair `b` of heads in `store_ab`.
-/
module

public import proofs.«01_k».proof.Proof.AttnTile

@[expose] public section

set_option maxRecDepth 16384

noncomputable section

open Idealize.ShloMosaic Idealize.ShloMosaic.TcCoe Idealize.SL.Sem

namespace Cert.Hand.AttnStore
open Cert.AttnIdeal Cert.AttnIdeal.Gen Cert.Hand.AttnKernel

variable (B : IVec S128x256 1) (Q : Vec Ideal S1x128x128 .bf16) (A T C U : Vec Ideal S1x128x256 .bf16) (s0 s1 : Elt Ideal .f32)

/-- A pair of the first key head: keys `A` over `T`, values `C` over `U`. -/
def first : FVec Ideal S1x128x128 .bf16 :=
  pairOut B Q (lanesA (k0_pay6 A T)) (lanesB (k0_pay6 A T)) (lanesA (k0_pay6 C U)) (lanesB (k0_pay6 C U)) s0 s1

/-- A pair of the second key head. -/
def second : FVec Ideal S1x128x128 .bf16 :=
  pairOut B Q (lanesB (k0_pay6 A T)) (lanesA (k0_pay6 A T)) (lanesB (k0_pay6 C U)) (lanesA (k0_pay6 C U)) s0 s1

theorem store_00 : k0_pay11 (k0_pay10 k0_pay2 k0_pay4 B (k0_pay6 A T) (k0_pay7 C U) (k0_pay8 Q) (k0_pay9 A T Q) s0 s1) = first B Q A T C U s0 s1 := rfl

theorem store_01 : k0_pay17 k0_pay2 (k0_pay7 C U) (k0_pay13 k0_pay2 k0_pay4 B (k0_pay6 A T) (k0_pay7 C U) Q s0) s1 (k0_pay15 k0_pay2 k0_pay4 B (k0_pay6 A T) Q s1) (k0_pay16 k0_pay2 k0_pay4 B (k0_pay6 A T) Q s1) = first B Q A T C U s0 s1 := rfl

theorem store_02 : k0_pay21 k0_pay2 k0_pay4 B (k0_pay6 A T) (k0_pay7 C U) (k0_pay18 Q) (k0_pay19 k0_pay2 k0_pay4 B (k0_pay6 A T) (k0_pay7 C U) Q s0) (k0_pay20 k0_pay2) s1 = second B Q A T C U s0 s1 := rfl

theorem store_03 : k0_pay26 k0_pay2 k0_pay4 B (k0_pay6 A T) (k0_pay7 C U) (k0_pay22 Q) s0 (k0_pay24 k0_pay2 k0_pay4 B (k0_pay6 A T) Q s0) (k0_pay25 k0_pay2 k0_pay4 B (k0_pay6 A T) Q s0) s1 = second B Q A T C U s0 s1 := rfl

theorem store_10 : k0_pay34 k0_pay2 k0_pay3 (k0_pay29 C U) (k0_pay31 k0_pay2 k0_pay3 k0_pay4 (k0_pay27 A) C T U Q s0) (k0_pay32 k0_pay2 k0_pay4 (k0_pay27 A) T Q) k0_pay33 s1 = first k0_pay3 Q A T C U s0 s1 := rfl

theorem store_11 : k0_pay41 k0_pay2 k0_pay3 k0_pay4 (k0_pay28 (k0_pay27 A) T) (k0_pay29 C U) (k0_pay35 Q) (k0_pay38 k0_pay2 k0_pay3 k0_pay4 (k0_pay28 (k0_pay27 A) T) Q s0) (k0_pay39 k0_pay2 k0_pay3 k0_pay4 (k0_pay28 (k0_pay27 A) T) Q s0) (k0_pay40 k0_pay2 k0_pay3 k0_pay4 (k0_pay28 (k0_pay27 A) T) Q s0) s1 = first k0_pay3 Q A T C U s0 s1 := rfl

theorem store_12 : k0_pay46 (k0_pay45 k0_pay2 k0_pay3 k0_pay4 (k0_pay28 (k0_pay27 A) T) (k0_pay29 C U) (k0_pay42 Q) (k0_pay43 k0_pay2 k0_pay4 (k0_pay28 (k0_pay27 A) T) Q) k0_pay44 s0 s1) = second k0_pay3 Q A T C U s0 s1 := rfl

theorem store_13 : k0_pay52 k0_pay2 (k0_pay29 C U) (k0_pay48 k0_pay2 k0_pay3 k0_pay4 (k0_pay28 (k0_pay27 A) T) (k0_pay29 C U) Q s0) s1 (k0_pay50 k0_pay2 k0_pay3 k0_pay4 (k0_pay28 (k0_pay27 A) T) Q s1) (k0_pay51 k0_pay2 k0_pay3 k0_pay4 (k0_pay28 (k0_pay27 A) T) Q s1) = second k0_pay3 Q A T C U s0 s1 := rfl

theorem store_20 : k0_pay58 k0_pay2 k0_pay3 k0_pay4 (k0_pay53 A T) (k0_pay54 C U) (k0_pay55 Q) (k0_pay56 k0_pay2 k0_pay3 k0_pay4 A T Q) s0 (k0_pay57 k0_pay2 k0_pay3 k0_pay4 A T Q) s1 = first k0_pay3 Q A T C U s0 s1 := rfl

theorem store_21 : k0_pay65 k0_pay2 (k0_pay54 C U) (k0_pay60 k0_pay2 k0_pay3 k0_pay4 (k0_pay53 A T) (k0_pay54 C U) Q s0) (k0_pay63 k0_pay2 k0_pay3 k0_pay4 (k0_pay53 A T) Q s1) (k0_pay64 k0_pay2 k0_pay3 k0_pay4 (k0_pay53 A T) Q s1) = first k0_pay3 Q A T C U s0 s1 := rfl

theorem store_22 : k0_pay69 k0_pay2 (k0_pay54 C U) (k0_pay67 k0_pay2 k0_pay3 k0_pay4 (k0_pay53 A T) (k0_pay54 C U) Q s0) (k0_pay68 k0_pay2 k0_pay3 k0_pay4 (k0_pay53 A T) Q) s1 = second k0_pay3 Q A T C U s0 s1 := rfl

theorem store_23 : k0_pay75 k0_pay2 k0_pay3 k0_pay4 (k0_pay53 A T) (k0_pay54 C U) (k0_pay70 Q) (k0_pay73 k0_pay2 k0_pay3 k0_pay4 (k0_pay53 A T) Q s0) (k0_pay74 k0_pay2 k0_pay3 k0_pay4 (k0_pay53 A T) Q s0) s1 = second k0_pay3 Q A T C U s0 s1 := rfl

theorem store_30 : k0_pay84 k0_pay2 (k0_pay79 (k0_pay77 C) U) (k0_pay81 k0_pay2 k0_pay3 k0_pay4 (k0_pay76 A) (k0_pay77 C) T U Q s0) (k0_pay82 k0_pay2 k0_pay3 k0_pay4 (k0_pay76 A) T Q) s1 (k0_pay83 k0_pay2 k0_pay3 k0_pay4 (k0_pay76 A) T Q s1) = first k0_pay3 Q A T C U s0 s1 := rfl

theorem store_31 : k0_pay87 k0_pay2 k0_pay3 k0_pay4 (k0_pay78 (k0_pay76 A) T) (k0_pay79 (k0_pay77 C) U) (k0_pay85 Q) (k0_pay86 k0_pay2 k0_pay3 k0_pay4 (k0_pay78 (k0_pay76 A) T) (k0_pay79 (k0_pay77 C) U) Q s0) s1 = first k0_pay3 Q A T C U s0 s1 := rfl

theorem store_32 : k0_pay91 k0_pay2 k0_pay3 k0_pay4 (k0_pay78 (k0_pay76 A) T) (k0_pay79 (k0_pay77 C) U) (k0_pay88 Q) (k0_pay89 k0_pay2 k0_pay3 k0_pay4 (k0_pay78 (k0_pay76 A) T) Q) s0 (k0_pay90 k0_pay2 k0_pay3 k0_pay4 (k0_pay78 (k0_pay76 A) T) Q s0) s1 = second k0_pay3 Q A T C U s0 s1 := rfl

theorem store_33 : k0_pay1 k0_pay2 (k0_pay93 k0_pay2 k0_pay3 k0_pay4 (k0_pay78 (k0_pay76 A) T) (k0_pay79 (k0_pay77 C) U) Q s0) (k0_pay97 k0_pay2 k0_pay3 k0_pay4 (k0_pay78 (k0_pay76 A) T) Q s1) (k0_pay98 k0_pay2 k0_pay3 k0_pay4 (k0_pay78 (k0_pay76 A) T) Q s1) (k0_pay99 (k0_pay79 (k0_pay77 C) U)) = second k0_pay3 Q A T C U s0 s1 := rfl

end Cert.Hand.AttnStore
end
-- ==== Proof.AttnBlock.lean ====
/-
  What one grid point of the attention kernel leaves in its block of the result: sixteen stores, four blocks of 128 rows
  by four pairs of heads, each the attention's entries (`block`).
-/
module

public import proofs.«01_k».proof.Proof.Gen.AttnIdeal.Value
public import proofs.«01_k».proof.Proof.AttnStore
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand.AttnBlock
open Cert.AttnIdeal Cert.AttnIdeal.Gen Cert.Hand.AttnKernel Cert.Hand.AttnTile Cert.Hand.AttnStore

variable (q : FVec Ideal S4x8192x512 .f32) (k v : FVec Ideal S4x8192x128 .f32) (s : FVec Ideal S8 .f32)

/-- What a grid point leaves at `(0, y1, y2)` of its block, `b` its batch and `i` its block of 512 rows. -/
def G (b : Fin 4) (i : Fin 16) (y : S1x512x512.Idx) : EReal :=
  have h1 : (y 1 : ℕ) < 512 := (y 1).isLt
  have h2 : (y 2 : ℕ) < 512 := (y 2).isLt
  Attn.entry q k v s b ⟨(i : ℕ) * 4 + (y 1 : ℕ) / 128, by omega⟩ ⟨(y 1 : ℕ) % 128, by omega⟩ ⟨(y 2 : ℕ) / 64, by omega⟩ ⟨(y 2 : ℕ) % 64, by omega⟩

/-- `G` on block `bl` of 128 rows and pair `pr` of heads. -/
theorem G_at (b : Fin 4) (i : Fin 16) (y : S1x512x512.Idx) (bl pr : Fin 4) (r l : Fin 128) (h1 : (y 1 : ℕ) = 128 * bl + r) (h2 : (y 2 : ℕ) = 128 * pr + l)
    (n : Fin 64) (hn : (n : ℕ) = i * 4 + bl) :
    Attn.entry q k v s b n r ⟨2 * pr + (l : ℕ) / 64, by omega⟩ ⟨(l : ℕ) % 64, by omega⟩ = G q k v s b i y := by
  unfold G
  congr 1 <;> refine Fin.ext ?_ <;> dsimp only <;> omega

/-- The kernel's mask of the first block: the test of the grid point is the test of the block. -/
theorem mask_first (e : Fin 16) (r : Fin 128) (j : Fin 256) :
    IntOp.andi (Attn.band r j) (IntOp.ori (Scalar.cmpi CmpIPredicate.sgt (BitVec.ofNat 32 (e : ℕ)) 0#32)
        (IntOp.cmpi CmpIPredicate.sge (BitVec.ofNat 32 ↑j) 128#32)) = Attn.bit ⟨(e : ℕ) * 4 + 0, by omega⟩ r j := by
  have h : Scalar.cmpi CmpIPredicate.sgt (BitVec.ofNat 32 (e : ℕ)) 0#32 = IntOp.cmpi CmpIPredicate.sgt (BitVec.ofNat 32 ((e : ℕ) * 4 + 0)) 0#32 := by
    revert e; decide
  unfold Attn.bit
  rw [h]

/-- The sink loaded at row `n`. -/
theorem sink_ld (X : Vec Ideal S8 .f32) (n : ℕ) (inb : ∀ a, (![n] : Fin S8.rank → ℕ) a + (![1] : Fin S8.rank → ℕ) a ≤ S8.size a)
    (x : (Rect.unit (s := S8) ![n] ![1] inb).shape.Idx) (h : Fin 8) (hn : (h : ℕ) = n) :
    View.ld X (Rect.unit ![n] ![1] inb) x = X (ix1 h) := by
  refine View.ld_unit_apply_of X _ _ inb x (ix1 h) fun a => ?_
  obtain rfl : a = 0 := Subsingleton.elim _ _
  have hx : (x 0 : ℕ) < 1 := (x 0).isLt
  show (h : ℕ) = n + (x 0 : ℕ)
  omega

/-- A pair of the first key head, stored at block `bl` and pair `pr` of the grid point `e`. -/
theorem first_at (B : IVec S128x256 1) (Q : Vec Ideal S1x128x128 .bf16) (A T C U : Vec Ideal S1x128x256 .bf16) (s0 s1 : Elt Ideal .f32)
    (b : Fin 4) (e : Fin 16) (y : S1x512x512.Idx) (bl pr : Fin 4) (n : Fin 64) (hn : (n : ℕ) = e * 4 + bl) (hpr : (pr : ℕ) < 2)
    (x0 : Fin 1) (r l : Fin 128) (h1 : (y 1 : ℕ) = 128 * bl + r) (h2 : (y 2 : ℕ) = 128 * pr + l)
    (hB : ∀ (r : Fin 128) (j : Fin 256), B (ix2 r j) = Attn.bit n r j)
    (hQ : ∀ (r l : Fin 128), Q (ix3 (0 : Fin 1) r l)
      = q (ix3 b (⟨128 * n + r, by omega⟩ : Fin 8192) (⟨128 * pr + l, by omega⟩ : Fin 512)) * Attn.c8)
    (hA : ∀ (r : Fin 128) (l : Fin 256), 1 ≤ (n : ℕ) → A (ix3 (0 : Fin 1) r l) = k (ix3 b (⟨128 * n + r - 128, by omega⟩ : Fin 8192) (lane l)))
    (hT : ∀ (r : Fin 128) (l : Fin 256), T (ix3 (0 : Fin 1) r l) = k (ix3 b (⟨128 * n + r, by omega⟩ : Fin 8192) (lane l)))
    (hC : ∀ (r : Fin 128) (l : Fin 256), 1 ≤ (n : ℕ) → C (ix3 (0 : Fin 1) r l) = v (ix3 b (⟨128 * n + r - 128, by omega⟩ : Fin 8192) (lane l)))
    (hU : ∀ (r : Fin 128) (l : Fin 256), U (ix3 (0 : Fin 1) r l) = v (ix3 b (⟨128 * n + r, by omega⟩ : Fin 8192) (lane l)))
    (hs0 : s0 = s (ix1 (⟨2 * pr, by omega⟩ : Fin 8))) (hs1 : s1 = s (ix1 (⟨2 * pr + 1, by omega⟩ : Fin 8))) :
    first B Q A T C U s0 s1 (ix3 x0 r l) = G q k v s b e y := by
  obtain rfl : x0 = 0 := Subsingleton.elim _ _
  exact (tile_first q k v s B Q A T C U s0 s1 b n pr hpr hB hQ hA hT hC hU hs0 hs1 r l).trans (G_at q k v s b e y bl pr r l h1 h2 n hn)

/-- A pair of the second key head, stored at block `bl` and pair `pr` of the grid point `e`. -/
theorem second_at (B : IVec S128x256 1) (Q : Vec Ideal S1x128x128 .bf16) (A T C U : Vec Ideal S1x128x256 .bf16) (s0 s1 : Elt Ideal .f32)
    (b : Fin 4) (e : Fin 16) (y : S1x512x512.Idx) (bl pr : Fin 4) (n : Fin 64) (hn : (n : ℕ) = e * 4 + bl) (hpr : 2 ≤ (pr : ℕ))
    (x0 : Fin 1) (r l : Fin 128) (h1 : (y 1 : ℕ) = 128 * bl + r) (h2 : (y 2 : ℕ) = 128 * pr + l)
    (hB : ∀ (r : Fin 128) (j : Fin 256), B (ix2 r j) = Attn.bit n r j)
    (hQ : ∀ (r l : Fin 128), Q (ix3 (0 : Fin 1) r l)
      = q (ix3 b (⟨128 * n + r, by omega⟩ : Fin 8192) (⟨128 * pr + l, by omega⟩ : Fin 512)) * Attn.c8)
    (hA : ∀ (r : Fin 128) (l : Fin 256), 1 ≤ (n : ℕ) → A (ix3 (0 : Fin 1) r l) = k (ix3 b (⟨128 * n + r - 128, by omega⟩ : Fin 8192) (lane l)))
    (hT : ∀ (r : Fin 128) (l : Fin 256), T (ix3 (0 : Fin 1) r l) = k (ix3 b (⟨128 * n + r, by omega⟩ : Fin 8192) (lane l)))
    (hC : ∀ (r : Fin 128) (l : Fin 256), 1 ≤ (n : ℕ) → C (ix3 (0 : Fin 1) r l) = v (ix3 b (⟨128 * n + r - 128, by omega⟩ : Fin 8192) (lane l)))
    (hU : ∀ (r : Fin 128) (l : Fin 256), U (ix3 (0 : Fin 1) r l) = v (ix3 b (⟨128 * n + r, by omega⟩ : Fin 8192) (lane l)))
    (hs0 : s0 = s (ix1 (⟨2 * pr, by omega⟩ : Fin 8))) (hs1 : s1 = s (ix1 (⟨2 * pr + 1, by omega⟩ : Fin 8))) :
    second B Q A T C U s0 s1 (ix3 x0 r l) = G q k v s b e y := by
  obtain rfl : x0 = 0 := Subsingleton.elim _ _
  exact (tile_second q k v s B Q A T C U s0 s1 b n pr hpr hB hQ hA hT hC hU hs0 hs1 r l).trans (G_at q k v s b e y bl pr r l h1 h2 n hn)

/-- A grid point's block, from what its windows hold: `b` its batch, `e` its block of 512 rows. -/
theorem block (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x512x256 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x512x512 .bf16) (harg8 : arg8.IsWhole)
    (X0 : Vec Ideal S8 .f32) (X1 : Vec Ideal S1x512x512 .bf16) (X2 : Vec Ideal S1x512x256 .bf16) (X3 : Vec Ideal S1x128x256 .bf16) (X4 : Vec Ideal S1x512x256 .bf16) (X5 : Vec Ideal S1x128x256 .bf16)
    (b : Fin 4) (e : Fin 16) (he : (i 1).val = e)
    (H0 : ∀ h : Fin 8, X0 (ix1 h) = s (ix1 h))
    (H1 : ∀ (r : Fin 512) (l : Fin 512), X1 (ix3 (0 : Fin 1) r l) = q (ix3 b (⟨e * 512 + r, by omega⟩ : Fin 8192) l) * Attn.c8)
    (H2 : ∀ (r : Fin 512) (l : Fin 256), X2 (ix3 (0 : Fin 1) r l) = k (ix3 b (⟨e * 512 + r, by omega⟩ : Fin 8192) (lane l)))
    (H3 : ∀ (r : Fin 128) (l : Fin 256), X3 (ix3 (0 : Fin 1) r l) = k (ix3 b (⟨(e * 4 - 1) * 128 + r, by omega⟩ : Fin 8192) (lane l)))
    (H4 : ∀ (r : Fin 512) (l : Fin 256), X4 (ix3 (0 : Fin 1) r l) = v (ix3 b (⟨e * 512 + r, by omega⟩ : Fin 8192) (lane l)))
    (H5 : ∀ (r : Fin 128) (l : Fin 256), X5 (ix3 (0 : Fin 1) r l) = v (ix3 b (⟨(e * 4 - 1) * 128 + r, by omega⟩ : Fin 8192) (lane l)))
    (y : S1x512x512.Idx) :
    out0_A_6 c i arg2 harg2 arg3 harg3 arg4 harg4 arg5 harg5 arg6 harg6 arg7 harg7 arg8 harg8 X0 X1 X2 X3 X4 X5 y = G q k v s b e y := by
  have M0 : ∀ (r : Fin 128) (j : Fin 256), k0_pay5 i (ix2 r j) = Attn.bit ⟨(e : ℕ) * 4 + 0, by omega⟩ r j := fun r j => by
    rw [mask0_at, he]; exact mask_first e r j
  have M1 : ∀ (a : ℕ) (ha : a < 4) (h1 : 1 ≤ a) (r : Fin 128) (j : Fin 256), k0_pay3 (ix2 r j) = Attn.bit ⟨(e : ℕ) * 4 + a, by omega⟩ r j :=
    fun a ha h1 r j => (band_at r j).trans (Attn.bit_pos _ (by show 1 ≤ (e : ℕ) * 4 + a; omega) r j).symm
  frame_out
  canon_tiles x h
  all_goals idx_vars x
  case' piece15 =>
    rw [store_00]
    refine first_at q k v s _ _ _ _ _ _ _ _ b e y 0 0 ⟨(e : ℕ) * 4 + 0, by omega⟩ rfl (by decide) x0 x1 x2 ?_ ?_ M0 ?_ ?_ ?_ ?_ ?_ ?_ ?_
  case' piece14 =>
    rw [store_01]
    refine first_at q k v s _ _ _ _ _ _ _ _ b e y 0 1 ⟨(e : ℕ) * 4 + 0, by omega⟩ rfl (by decide) x0 x1 x2 ?_ ?_ M0 ?_ ?_ ?_ ?_ ?_ ?_ ?_
  case' piece13 =>
    rw [store_02]
    refine second_at q k v s _ _ _ _ _ _ _ _ b e y 0 2 ⟨(e : ℕ) * 4 + 0, by omega⟩ rfl (by decide) x0 x1 x2 ?_ ?_ M0 ?_ ?_ ?_ ?_ ?_ ?_ ?_
  case' piece12 =>
    rw [store_03]
    refine second_at q k v s _ _ _ _ _ _ _ _ b e y 0 3 ⟨(e : ℕ) * 4 + 0, by omega⟩ rfl (by decide) x0 x1 x2 ?_ ?_ M0 ?_ ?_ ?_ ?_ ?_ ?_ ?_
  case' piece11 =>
    rw [store_10]
    refine first_at q k v s _ _ _ _ _ _ _ _ b e y 1 0 ⟨(e : ℕ) * 4 + 1, by omega⟩ rfl (by decide) x0 x1 x2 ?_ ?_ (M1 1 (by decide) (by decide)) ?_ ?_ ?_ ?_ ?_ ?_ ?_
  case' piece10 =>
    rw [store_11]
    refine first_at q k v s _ _ _ _ _ _ _ _ b e y 1 1 ⟨(e : ℕ) * 4 + 1, by omega⟩ rfl (by decide) x0 x1 x2 ?_ ?_ (M1 1 (by decide) (by decide)) ?_ ?_ ?_ ?_ ?_ ?_ ?_
  case' piece9 =>
    rw [store_12]
    refine second_at q k v s _ _ _ _ _ _ _ _ b e y 1 2 ⟨(e : ℕ) * 4 + 1, by omega⟩ rfl (by decide) x0 x1 x2 ?_ ?_ (M1 1 (by decide) (by decide)) ?_ ?_ ?_ ?_ ?_ ?_ ?_
  case' piece8 =>
    rw [store_13]
    refine second_at q k v s _ _ _ _ _ _ _ _ b e y 1 3 ⟨(e : ℕ) * 4 + 1, by omega⟩ rfl (by decide) x0 x1 x2 ?_ ?_ (M1 1 (by decide) (by decide)) ?_ ?_ ?_ ?_ ?_ ?_ ?_
  case' piece7 =>
    rw [store_20]
    refine first_at q k v s _ _ _ _ _ _ _ _ b e y 2 0 ⟨(e : ℕ) * 4 + 2, by omega⟩ rfl (by decide) x0 x1 x2 ?_ ?_ (M1 2 (by decide) (by decide)) ?_ ?_ ?_ ?_ ?_ ?_ ?_
  case' piece6 =>
    rw [store_21]
    refine first_at q k v s _ _ _ _ _ _ _ _ b e y 2 1 ⟨(e : ℕ) * 4 + 2, by omega⟩ rfl (by decide) x0 x1 x2 ?_ ?_ (M1 2 (by decide) (by decide)) ?_ ?_ ?_ ?_ ?_ ?_ ?_
  case' piece5 =>
    rw [store_22]
    refine second_at q k v s _ _ _ _ _ _ _ _ b e y 2 2 ⟨(e : ℕ) * 4 + 2, by omega⟩ rfl (by decide) x0 x1 x2 ?_ ?_ (M1 2 (by decide) (by decide)) ?_ ?_ ?_ ?_ ?_ ?_ ?_
  case' piece4 =>
    rw [store_23]
    refine second_at q k v s _ _ _ _ _ _ _ _ b e y 2 3 ⟨(e : ℕ) * 4 + 2, by omega⟩ rfl (by decide) x0 x1 x2 ?_ ?_ (M1 2 (by decide) (by decide)) ?_ ?_ ?_ ?_ ?_ ?_ ?_
  case' piece3 =>
    rw [store_30]
    refine first_at q k v s _ _ _ _ _ _ _ _ b e y 3 0 ⟨(e : ℕ) * 4 + 3, by omega⟩ rfl (by decide) x0 x1 x2 ?_ ?_ (M1 3 (by decide) (by decide)) ?_ ?_ ?_ ?_ ?_ ?_ ?_
  case' piece2 =>
    rw [store_31]
    refine first_at q k v s _ _ _ _ _ _ _ _ b e y 3 1 ⟨(e : ℕ) * 4 + 3, by omega⟩ rfl (by decide) x0 x1 x2 ?_ ?_ (M1 3 (by decide) (by decide)) ?_ ?_ ?_ ?_ ?_ ?_ ?_
  case' piece1 =>
    rw [store_32]
    refine second_at q k v s _ _ _ _ _ _ _ _ b e y 3 2 ⟨(e : ℕ) * 4 + 3, by omega⟩ rfl (by decide) x0 x1 x2 ?_ ?_ (M1 3 (by decide) (by decide)) ?_ ?_ ?_ ?_ ?_ ?_ ?_
  case' piece0 =>
    rw [store_33]
    refine second_at q k v s _ _ _ _ _ _ _ _ b e y 3 3 ⟨(e : ℕ) * 4 + 3, by omega⟩ rfl (by decide) x0 x1 x2 ?_ ?_ (M1 3 (by decide) (by decide)) ?_ ?_ ?_ ?_ ?_ ?_ ?_
  all_goals first
    | omega
    | (intro r l; pointwise [H1]; blk_point [])
    | (intro r l; pointwise [H2, H4]; blk_point [])
    | (intro r l hl; pointwise [H2, H4]; blk_point [])
    | (intro r l hl
       change 1 ≤ (e : ℕ) * 4 + 0 at hl
       first
         | refine (H3 r l).trans (congrArg k (congrArg (fun p => ix3 b p (lane l)) (Fin.ext ?_)))
         | refine (H5 r l).trans (congrArg v (congrArg (fun p => ix3 b p (lane l)) (Fin.ext ?_)))
       show ((e : ℕ) * 4 - 1) * 128 + (r : ℕ) = 128 * ((e : ℕ) * 4 + 0) + (r : ℕ) - 128
       omega)
    | (refine Eq.trans ?_ (H0 _); exact sink_ld X0 _ _ _ _ rfl)
    | skip

end Cert.Hand.AttnBlock
end
-- ==== Proof.AttnRef.lean ====
/-
  The attention's reference read at an index: its keys and values, its masked scores, its softmax with the sink, and each
  entry of its result as the attention's (`Attn.entry`) of the operands.
-/
module

public import proofs.«01_k».proof.Proof.Gen.AttnRefIdeal.Read
public import proofs.«01_k».proof.Proof.AttnSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Hand.AttnRef
open Cert.AttnRefIdeal Cert.AttnRefIdeal.Gen Cert.AttnRefIdeal.Read

variable (q : FVec Ideal S4x8192x512 .f32) (k v : FVec Ideal S4x8192x128 .f32) (s : FVec Ideal S8 .f32)

/-- A key of block `n` and the one before, where there is one. -/
theorem key_at (b : Fin 4) (n : Fin 64) (j : Fin 256) (g : Fin 2) (d : Fin 64) (h : 1 ≤ (n : ℕ) ∨ 128 ≤ (j : ℕ)) :
    val_main_v8 (F := Ideal) k (ix5 b n j g d) = k (ix3 b (Attn.pos n j) (⟨64 * (g : ℕ) + d, by omega⟩ : Fin 128)) := by
  pointwise [val_main_v8, val_main_v7, val_main_v6, val_main_v4, val_main_v1, val_main_call0_v0, val_main_c]
  split
  · next hj =>
    rw [dif_pos ⟨⟨by omega, by omega⟩, hj⟩]
    congr 1
    blk_ext [Attn.pos]
  · next hj =>
    congr 1
    blk_ext [Attn.pos]

/-- A value of block `n` and the one before, where there is one. -/
theorem val_at (b : Fin 4) (n : Fin 64) (j : Fin 256) (g : Fin 2) (d : Fin 64) (h : 1 ≤ (n : ℕ) ∨ 128 ≤ (j : ℕ)) :
    val_main_v11 (F := Ideal) v (ix5 b n j g d) = v (ix3 b (Attn.pos n j) (⟨64 * (g : ℕ) + d, by omega⟩ : Fin 128)) := by
  pointwise [val_main_v11, val_main_v10, val_main_v9, val_main_v5, val_main_v2, val_main_call1_v0, val_main_c_0]
  split
  · next hj =>
    rw [dif_pos ⟨⟨by omega, by omega⟩, hj⟩]
    congr 1
    blk_ext [Attn.pos]
  · next hj =>
    congr 1
    blk_ext [Attn.pos]

theorem diff_at (r : Fin 128) (j : Fin 256) : val_main_v24 (F := Ideal) (ix2 r j)
    = IntOp.subi (IntOp.addi (BitVec.ofNat 32 ↑r) 128#32) (BitVec.ofNat 32 ↑j) := by
  pointwise [val_main_v24, val_main_v23, val_main_v22, val_main_v21, val_main_v20, val_main_v19, val_main_v18, val_main_v17, val_main_v16, val_main_c_1]

theorem band_at (r : Fin 128) (j : Fin 256) : val_main_v29 (F := Ideal) (ix2 r j) = Attn.band r j := by
  rw [val_main_v29_apply, val_main_v26_apply, val_main_v28_apply, diff_at]
  rw [val_main_v25_apply, val_main_v27_apply]
  rfl

theorem block_at (n : Fin 64) (j : Fin 256) : val_main_v40 (F := Ideal) (ix3 n (0 : Fin 1) j)
    = IntOp.ori (IntOp.cmpi CmpIPredicate.sgt (BitVec.ofNat 32 ↑n) 0#32) (IntOp.cmpi CmpIPredicate.sge (BitVec.ofNat 32 ↑j) 128#32) := by
  pointwise [val_main_v40, val_main_v39, val_main_v38, val_main_v37, val_main_v36, val_main_v35, val_main_v34, val_main_v33, val_main_v32, val_main_v31, val_main_v19, val_main_v18, val_main_c_4, val_main_c_5]

/-- The mask. -/
theorem mask_at (n : Fin 64) (r : Fin 128) (j : Fin 256) : val_main_v43 (F := Ideal) (ix3 n r j) = Attn.bit n r j := by
  unfold val_main_v43 val_main_v42 val_main_v41 val_main_v30
  have hb := band_at r j
  have hn := block_at n j
  generalize val_main_v29 (F := Ideal) = x at hb ⊢
  generalize val_main_v40 (F := Ideal) = y at hn ⊢
  pointwise
  rw [hb, hn]
  rfl

/-- The pattern of minus infinity. -/
theorem neg_inf : Ideal.ofBits .f32 4286578688#32 = (⊥ : EReal) := by
  simp [Ideal.ofBits, Ideal.ieee]

/-- The row of scores of query row `r` of block `n` for head `h`. -/
def row (b : Fin 4) (n : Fin 64) (h : Fin 8) (r : Fin 128) : Fin 256 → EReal := fun j => val_main_v46 (F := Ideal) q k (ix5 b n h r j)

/-- The scores are the attention's. -/
theorem row_eq (b : Fin 4) (n : Fin 64) (h : Fin 8) (r : Fin 128) : row q k b n h r
    = Attn.score (fun d => q (ix3 b (⟨128 * n + r, by omega⟩ : Fin 8192) (⟨64 * h + d, by omega⟩ : Fin 512)))
        (fun j d => val_main_v8 (F := Ideal) k (ix5 b n j (⟨(h : ℕ) / 4, by omega⟩ : Fin 2) d)) (Attn.bit n r) := by
  funext j
  unfold row Attn.score
  rw [← mask_at n r j]
  generalize hM : val_main_v43 (F := Ideal) = M
  pointwise [val_main_v46, val_main_v45, val_main_call2_v1, val_main_call2_v2, val_main_call2_v0, val_main_cst_6, val_main_v44, val_main_v15, val_main_v14, val_main_v13, val_main_v12, val_main_cst, val_main_v3, val_main_v0, hM]
  have hr : (⟨(n : ℕ) * 128 + r, by omega⟩ : Fin 8192) = ⟨128 * n + r, by omega⟩ := Fin.ext (by dsimp only; omega)
  have hc : ∀ x : Fin 64, (⟨(h : ℕ) / 4 * 256 + (h : ℕ) % 4 * 64 + x, by omega⟩ : Fin 512) = ⟨64 * h + x, by omega⟩ := fun x => Fin.ext (by dsimp only; omega)
  simp only [hr, hc]
  rw [show (id (constant (F := Ideal) S_ FTy.f32 4286578688#32) ix0 : EReal) = ⊥ from neg_inf]
  rfl

/-- The host's maximum over the last axis. -/
theorem max_last (b : Fin 4) (n : Fin 64) (h : Fin 8) (r : Fin 128) (x : FVec Ideal S4x64x8x128x256 .f32) :
    Host.reduce FloatOps.maximumf x (constant S_ .f32 0xFF800000#32) reducesTo_S4x64x8x128x256_S4x64x8x128_d4 h_S_ (ix4 b n h r)
      = Finset.univ.fold max ⊥ fun j => x (ix5 b n h r j) := by
  pointwise []
  rw [neg_inf]

/-- The maximum of the scores and the sink. -/
theorem top_at (b : Fin 4) (n : Fin 64) (h : Fin 8) (r : Fin 128) :
    val_main_v52 (F := Ideal) q k s (ix5 b n h r (0 : Fin 1)) = Attn.top (row q k b n h r) (s (ix1 h)) := by
  have hm : val_main_v48 (F := Ideal) q k (ix4 b n h r) = Finset.univ.fold max ⊥ (row q k b n h r) := by
    unfold val_main_v48 row
    exact max_last b n h r _
  rw [val_main_v52_apply, val_main_v49_apply, val_main_v51_apply, val_main_v50_apply, val_main_v47_apply,
    show idx_main_v49 (ix5 b n h r (0 : Fin 1)) = ix4 b n h r from funext fun a => by fin_cases a <;> rfl, hm,
    show idx_main_v47 (idx_main_v50 (idx_main_v51 (ix5 b n h r (0 : Fin 1)))) = ix1 h from funext fun a => by fin_cases a <;> rfl]
  rfl

/-- A weight before the division. -/
theorem prob_at (b : Fin 4) (n : Fin 64) (h : Fin 8) (r : Fin 128) (j : Fin 256) :
    val_main_v55 (F := Ideal) q k s (ix5 b n h r j) = Attn.prob (row q k b n h r) (s (ix1 h)) j := by
  rw [val_main_v55_apply, val_main_v54_apply, val_main_v53_apply,
    show idx_main_v53 (ix5 b n h r j) = ix5 b n h r (0 : Fin 1) from funext fun a => by fin_cases a <;> rfl, top_at]
  rfl

/-- The denominator. -/
theorem den_at (b : Fin 4) (n : Fin 64) (h : Fin 8) (r : Fin 128) :
    val_main_v62 (F := Ideal) q k s (ix5 b n h r (0 : Fin 1)) = Attn.den (row q k b n h r) (s (ix1 h)) := by
  pointwise [val_main_v62, val_main_v61, val_main_v60, val_main_v59, val_main_v58, val_main_v57, val_main_v56, val_main_v47, val_main_cst_8]
  simp only [prob_at, top_at]
  rfl

/-- An entry of the result, its terms the attention's. -/
theorem out_sum (b : Fin 4) (p : Fin 8192) (c : Fin 512) :
    val_main_v69 (F := Ideal) q k v s (ix3 b p c)
      = Attn.outSum (row q k b (⟨(p : ℕ) / 128, by omega⟩ : Fin 64) (⟨(c : ℕ) / 64, by omega⟩ : Fin 8) (⟨(p : ℕ) % 128, by omega⟩ : Fin 128))
          (s (ix1 (⟨(c : ℕ) / 64, by omega⟩ : Fin 8)))
          (fun j => val_main_v11 (F := Ideal) v (ix5 b (⟨(p : ℕ) / 128, by omega⟩ : Fin 64) j (⟨(c : ℕ) / 64 / 4, by omega⟩ : Fin 2) (⟨(c : ℕ) % 64, by omega⟩ : Fin 64))) := by
  have hh : (⟨(c : ℕ) / 256 * 4 + (c : ℕ) / 64 % 4, by omega⟩ : Fin 8) = ⟨(c : ℕ) / 64, by omega⟩ := Fin.ext (by dsimp only; omega)
  have hg : (⟨(c : ℕ) / 256, by omega⟩ : Fin 2) = ⟨(c : ℕ) / 64 / 4, by omega⟩ := Fin.ext (by dsimp only; omega)
  pointwise [val_main_v69, val_main_v68, val_main_v67, val_main_v66, val_main_v65, val_main_v64, val_main_v63]
  unfold Attn.outSum
  refine Finset.sum_congr rfl fun j _ => ?_
  refine congrArg₂ (· * ·) (congrArg (fun g => val_main_v11 (F := Ideal) v (ix5 b _ j g _)) hg) (congrArg₂ Ideal.div ?_ ?_)
  · exact (congrArg (fun h => val_main_v55 (F := Ideal) q k s (ix5 b _ h _ j)) hh).trans (prob_at q k s b _ _ _ j)
  · exact (congrArg (fun h => val_main_v62 (F := Ideal) q k s (ix5 b _ h _ (0 : Fin 1))) hh).trans (den_at q k s b _ _ _)

/-- With finite queries, keys and sinks each entry of the reference is the attention's. -/
theorem out_at (hq : ∀ i, ∃ x : ℝ, q i = x) (hk : ∀ i, ∃ x : ℝ, k i = x) (hs : ∀ i, ∃ x : ℝ, s i = x) (b : Fin 4) (p : Fin 8192) (c : Fin 512) :
    val_main_v69 (F := Ideal) q k v s (ix3 b p c)
      = Attn.entry q k v s b ⟨(p : ℕ) / 128, by omega⟩ ⟨(p : ℕ) % 128, by omega⟩ ⟨(c : ℕ) / 64, by omega⟩ ⟨(c : ℕ) % 64, by omega⟩ := by
  obtain ⟨sk, hsk⟩ := hs (ix1 (⟨(c : ℕ) / 64, by omega⟩ : Fin 8))
  rw [out_sum, row_eq]
  unfold Attn.entry
  rw [hsk, Attn.score_congr _ _ _ _ fun j hj d => key_at k b _ j _ d (Attn.bit_in _ _ j hj),
    ← Attn.outDiv_eq_outSum _ sk (Attn.score_ne_top _ _ _ (fun d => hq _) (fun j _ d => hk _))]
  exact Attn.outDiv_congr _ _ _ _ _ _ fun j hj => val_at v b _ j _ _ (Attn.bit_in _ _ j hj)

end Cert.Hand.AttnRef
end
-- ==== Proof.AttnFinal.lean ====
/-
  The attention kernel's result array: every entry is the attention's (`Attn.entry`) of the operands.
-/
module

public import proofs.«01_k».proof.Proof.Gen.AttnIdeal.Value
public import proofs.«01_k».proof.Proof.AttnBlock
public import proofs.«01_k».proof.Proof.AttnRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand.AttnFinal
open Cert.AttnIdeal Cert.AttnIdeal.Gen Cert.Hand.AttnKernel Cert.Hand.AttnTile

variable (m : (ℓ : Loc nD τ sig) → Buf (Elt Ideal) ℓ)

/-- The windows' block indices: batch `t / 16`, 512 rows at `t % 16`; the previous block is the 128 rows before. -/
theorem idx : ∀ t : Fin cfg0.N, win0_0.index t = ![0] ∧ win0_1.index t = ![t.val / 16, t.val % 16, 0]
    ∧ win0_2.index t = ![t.val / 16, t.val % 16, 0] ∧ win0_3.index t = ![t.val / 16, t.val % 16 * 4 - 1, 0]
    ∧ win0_4.index t = ![t.val / 16, t.val % 16, 0] ∧ win0_5.index t = ![t.val / 16, t.val % 16 * 4 - 1, 0]
    ∧ win0_6.index t = ![t.val / 16, t.val % 16, 0] ∧ (grid0.coords t 1).val = t.val % 16 :=
  (by decide +kernel : ∀ t : Fin grid0.N, _)

abbrev q (c : Dev nD) : FVec Ideal S4x8192x512 .f32 := m ((c : Thread nD τ).loc main_arg0)
abbrev k (c : Dev nD) : FVec Ideal S4x8192x128 .f32 := m ((c : Thread nD τ).loc main_arg1)
abbrev v (c : Dev nD) : FVec Ideal S4x8192x128 .f32 := m ((c : Thread nD τ).loc main_arg2)
abbrev s (c : Dev nD) : FVec Ideal S8 .f32 := m ((c : Thread nD τ).loc main_arg3)

variable (c : Dev nD) (t : Fin cfg0.N)

/-- The sinks' block. -/
theorem sink_at (h : Fin 8) : iblk m c 0 t (ix1 h) = s m c (ix1 h) := by
  blk_point [iblk, V, idx t]

/-- The queries' block, scaled. -/
theorem query_at (b : Fin 4) (hb : (b : ℕ) = t.val / 16) (r : Fin 512) (R : Fin 8192) (hR : (R : ℕ) = t.val % 16 * 512 + r) (l : Fin 512) :
    iblk m c 1 t (ix3 (0 : Fin 1) r l) = q m c (ix3 b R l) * Attn.c8 := by
  blk_point [iblk, V, idx t]

/-- An array of 128 lanes packed with its halves exchanged behind it, as the host does. -/
def packed (x : FVec Ideal S4x8192x128 .f32) : FVec Ideal S4x8192x256 .bf16 :=
  truncf (F := Ideal) .bf16 (concatenate S4x8192x256 2 [⟨S4x8192x128, x⟩, ⟨S4x8192x128, concatenate S4x8192x128 2
      [⟨S4x8192x64, extractStridedSlice S4x8192x64 ![0, 0, 64] x slices_S4x8192x128_S4x8192x64_0_0_64⟩,
       ⟨S4x8192x64, extractStridedSlice S4x8192x64 ![0, 0, 0] x slices_S4x8192x128_S4x8192x64_0_0_0⟩] concatenates_S4x8192x64_S4x8192x64_S4x8192x128_d2⟩]
      concatenates_S4x8192x128_S4x8192x128_S4x8192x256_d2) bitsLt_bf16_f32

theorem packed_at (x : FVec Ideal S4x8192x128 .f32) (b : Fin 4) (R : Fin 8192) (l : Fin 256) :
    packed x (ix3 b R l) = x (ix3 b R (lane l)) := by
  pointwise [packed, lane]
  split
  · next h => exact congrArg (fun p => x (ix3 b R p)) rfl
  · next h =>
    split
    · next h' => exact congrArg (fun p => x (ix3 b R p)) (Fin.ext (by show 64 + ((l : ℕ) - 128) = ((l : ℕ) + 64) % 128; omega))
    · next h' => exact congrArg (fun p => x (ix3 b R p)) (Fin.ext (by show (l : ℕ) - 128 - 64 = ((l : ℕ) + 64) % 128; omega))

/-- The packed keys. -/
theorem keys_at (b : Fin 4) (R : Fin 8192) (l : Fin 256) : V m c main_v5 (ix3 b R l) = k m c (ix3 b R (lane l)) := by
  have h : V m c main_v5 = packed (k m c) := by
    unfold V
    simp only [List.flatten, List.append, StableHlo.TRef.binary, StableHlo.TRef.unary, StableHlo.TRef.toBuf, StableHlo.TRef.ofBuf, cast_eq]
    after_results
    try rfl
  rw [h, packed_at]

/-- The packed values. -/
theorem vals_at (b : Fin 4) (R : Fin 8192) (l : Fin 256) : V m c main_v8 (ix3 b R l) = v m c (ix3 b R (lane l)) := by
  have h : V m c main_v8 = packed (v m c) := by
    unfold V
    simp only [List.flatten, List.append, StableHlo.TRef.binary, StableHlo.TRef.unary, StableHlo.TRef.toBuf, StableHlo.TRef.ofBuf, cast_eq]
    after_results
    try rfl
  rw [h, packed_at]

/-- The keys' current block. -/
theorem key_at (b : Fin 4) (hb : (b : ℕ) = t.val / 16) (r : Fin 512) (R : Fin 8192) (hR : (R : ℕ) = t.val % 16 * 512 + r) (l : Fin 256) :
    iblk m c 2 t (ix3 (0 : Fin 1) r l) = k m c (ix3 b R (lane l)) := by
  refine Eq.trans ?_ (keys_at m c b R l)
  blk_simp [iblk]
  blk_ext [idx t]

/-- The keys' previous block. -/
theorem key_prev (b : Fin 4) (hb : (b : ℕ) = t.val / 16) (r : Fin 128) (R : Fin 8192) (hR : (R : ℕ) = (t.val % 16 * 4 - 1) * 128 + r) (l : Fin 256) :
    iblk m c 3 t (ix3 (0 : Fin 1) r l) = k m c (ix3 b R (lane l)) := by
  refine Eq.trans ?_ (keys_at m c b R l)
  blk_simp [iblk]
  blk_ext [idx t]

/-- The values' current block. -/
theorem val_at (b : Fin 4) (hb : (b : ℕ) = t.val / 16) (r : Fin 512) (R : Fin 8192) (hR : (R : ℕ) = t.val % 16 * 512 + r) (l : Fin 256) :
    iblk m c 4 t (ix3 (0 : Fin 1) r l) = v m c (ix3 b R (lane l)) := by
  refine Eq.trans ?_ (vals_at m c b R l)
  blk_simp [iblk]
  blk_ext [idx t]

/-- The values' previous block. -/
theorem val_prev (b : Fin 4) (hb : (b : ℕ) = t.val / 16) (r : Fin 128) (R : Fin 8192) (hR : (R : ℕ) = (t.val % 16 * 4 - 1) * 128 + r) (l : Fin 256) :
    iblk m c 5 t (ix3 (0 : Fin 1) r l) = v m c (ix3 b R (lane l)) := by
  refine Eq.trans ?_ (vals_at m c b R l)
  blk_simp [iblk]
  blk_ext [idx t]

/-- The attention of the operands, as an array: row `p` is row `p % 128` of its block, column `l` a head and its dimension. -/
def attn (c : Dev nD) : FVec Ideal S4x8192x512 .bf16 := fun y =>
  have h1 : (y 1 : ℕ) < 8192 := (y 1).isLt
  have h2 : (y 2 : ℕ) < 512 := (y 2).isLt
  Attn.entry (q m c) (k m c) (v m c) (s m c) (y 0) ⟨(y 1 : ℕ) / 128, by omega⟩ ⟨(y 1 : ℕ) % 128, by omega⟩ ⟨(y 2 : ℕ) / 64, by omega⟩ ⟨(y 2 : ℕ) % 64, by omega⟩

/-- What point `t` stores is the attention at its block. -/
theorem point (y : S1x512x512.Idx) (b : Fin 4) (hb : (b : ℕ) = t.val / 16) (e : Fin 16) (he : (e : ℕ) = t.val % 16) :
    outsAt0 m c t y = AttnBlock.G (q m c) (k m c) (v m c) (s m c) b e y := by
  unfold outsAt0
  refine AttnBlock.block (q m c) (k m c) (v m c) (s m c) c _ _ _ _ _ _ _ _ _ _ _ _ _ _ _ _ _ _ _ _ _ b e ?_ ?_ ?_ ?_ ?_ ?_ ?_ y
  · exact (idx t).2.2.2.2.2.2.2.trans he.symm
  · exact sink_at m c t
  · exact fun r l => query_at m c t b hb r _ (by dsimp only; omega) l
  · exact fun r l => key_at m c t b hb r _ (by dsimp only; omega) l
  · exact fun r l => key_prev m c t b hb r _ (by dsimp only; omega) l
  · exact fun r l => val_at m c t b hb r _ (by dsimp only; omega) l
  · exact fun r l => val_prev m c t b hb r _ (by dsimp only; omega) l

/-- A grid point's block at a row of the whole array. -/
theorem G_row (q : FVec Ideal S4x8192x512 .f32) (k v : FVec Ideal S4x8192x128 .f32) (s : FVec Ideal S8 .f32) (b : Fin 4) (e : Fin 16)
    (y0 : Fin 1) (y1 y2 : Fin 512) (R : Fin 8192) (hR : (R : ℕ) = e * 512 + y1) :
    AttnBlock.G q k v s b e (ix3 y0 y1 y2)
      = Attn.entry q k v s b ⟨(R : ℕ) / 128, by omega⟩ ⟨(R : ℕ) % 128, by omega⟩ ⟨(y2 : ℕ) / 64, by omega⟩ ⟨(y2 : ℕ) % 64, by omega⟩ := by
  have h1 : (e : ℕ) * 4 + (y1 : ℕ) / 128 = (R : ℕ) / 128 := by omega
  have h2 : (y1 : ℕ) % 128 = (R : ℕ) % 128 := by omega
  exact congrArg₂ (fun n r => Attn.entry q k v s b n r _ _) (Fin.ext h1) (Fin.ext h2)

/-- The result array after the run. -/
theorem final (c : Dev nD) : (dats m 0 c).arrAt 6 (cfgs 0).N = attn m c := by
  refine (dats m 0 c).arrAt_eq_of_covers 6 _ (by decide +kernel) fun t _ y => ?_
  blk_simp
  rw [after0_6]
  have hN : t.val < 64 := lt_of_lt_of_eq t.isLt N_0
  have hi := (idx t).2.2.2.2.2.2.1
  refine (point m c t y ⟨t.val / 16, by omega⟩ rfl ⟨t.val % 16, by omega⟩ rfl).trans ?_
  idx_vars y
  have hE : (win0_6.blk t).view.emb (ix3 y0 y1 y2) = ix3 (⟨t.val / 16, by omega⟩ : Fin 4) (⟨t.val % 16 * 512 + y1, by omega⟩ : Fin 8192) y2 := by
    blk_ext [idx t]
  refine Eq.trans ?_ (congrArg (attn m c) hE).symm
  exact G_row (q m c) (k m c) (v m c) (s m c) _ ⟨t.val % 16, by omega⟩ y0 y1 y2 _ rfl

/-- With finite queries, keys and sinks the result array is the reference's result. -/
theorem value (c : Dev nD) (hq : ∀ i, ∃ x : ℝ, q m c i = x) (hk : ∀ i, ∃ x : ℝ, k m c i = x) (hs : ∀ i, ∃ x : ℝ, s m c i = x) :
    (dats m 0 c).arrAt 6 (cfgs 0).N = Cert.AttnRefIdeal.Read.val_main_v69 (F := Ideal) (q m c) (k m c) (v m c) (s m c) := by
  rw [final]
  funext y
  idx_vars y
  exact (AttnRef.out_at (q m c) (k m c) (v m c) (s m c) hq hk hs y0 y1 y2).symm

end Cert.Hand.AttnFinal
end
-- ==== Proof.lean ====
/-
  The certificate's proof, assembled: the runs and the machine's quiescence are the generated ones, a host-only reference's
  run is computed, and each value claim rests on the module that proves its result array (`FfnFinal.lean`,
  `SampleFinal.lean`, `AttnFinal.lean`, `StateFinal.lean`).
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.Ffn.Frame
public import proofs.«01_k».proof.Proof.Gen.FfnRefIdeal.Run
public import proofs.«01_k».proof.Proof.Gen.FfnSample.Frame
public import proofs.«01_k».proof.Proof.Gen.FfnSampleRefIdeal.Run
public import proofs.«01_k».proof.Proof.SampleFinal
public import proofs.«01_k».proof.Proof.Gen.State.Frame
public import proofs.«01_k».proof.Proof.Gen.StateRefIdeal.Run
public import proofs.«01_k».proof.Proof.StateFinal
public import proofs.«01_k».proof.Proof.StatePre
public import proofs.«01_k».proof.Proof.FfnFinal
public import proofs.«01_k».proof.Proof.AttnFinal
public import proofs.«01_k».proof.Proof.AttnPre
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The feed-forward kernel computes the reference's second half of the layer. -/
theorem ffn_value : Cert.algebraic_FfnIdeal_FfnRefIdeal := by
  pair_intro
  · run_from Cert.FfnIdeal.Value.run_blocks m g
  · run_from Cert.FfnRefIdeal.Value.run m' g'
    obtain ⟨h0, h1, h2, h3, h4, h5, h6⟩ := hagree c
    rw [Cert.FfnRefIdeal.Read.val_main_v24_eq, h0, h1, h2, h3, h4, h5, h6]
    exact (Cert.Hand.FfnFinal.final m c).symm

/-- The same kernel on the sample batch computes the reference's second half of the layer there. -/
theorem sample_value : Cert.algebraic_FfnSampleIdeal_FfnSampleRefIdeal := by
  pair_intro
  · run_from Cert.FfnSampleIdeal.Value.run_blocks m g
  · run_from Cert.FfnSampleRefIdeal.Value.run m' g'
    obtain ⟨h0, h1, h2, h3, h4, h5, h6⟩ := hagree c
    rw [Cert.FfnSampleRefIdeal.Read.val_main_v24_eq, h0, h1, h2, h3, h4, h5, h6]
    exact (Cert.Hand.SampleFinal.final m c).symm

/-- The attention kernel computes the reference's attention, where the queries, the keys and the sinks are finite. -/
theorem attn_value : Cert.algebraic_AttnIdeal_AttnRefIdeal_pre_finite_scores (hPre_finite_scores := Cert.Hand.AttnPre.facts) := by
  have := Cert.Hand.AttnPre.facts
  pair_intro
  · run_from Cert.AttnIdeal.Value.run_blocks m g
  · run_from Cert.AttnRefIdeal.Value.run m' g'
    obtain ⟨h0, h1, h2, h3⟩ := hagree c
    rw [Cert.AttnRefIdeal.Read.val_main_v69_eq, h0, h1, h2, h3]
    exact (Cert.Hand.AttnFinal.value m c (Cert.Hand.AttnPre.queries _ _ _ _ (hpre c).1) (Cert.Hand.AttnPre.keys _ _ _ _ (hpre c).2.1)
      (Cert.Hand.AttnPre.sinks _ _ _ _ (hpre c).2.2)).symm

/-- The state-update kernel computes the reference's new state, where the step sizes are finite and the rates' logarithms below infinity. -/
theorem state_value : Cert.algebraic_StateIdeal_StateRefIdeal_pre_finite_steps (hPre_finite_steps := Cert.Hand.StatePre.facts) := by
  have := Cert.Hand.StatePre.facts
  pair_intro
  · run_from Cert.StateIdeal.Value.run_blocks m g
  · run_from Cert.StateRefIdeal.Value.run m' g'
    obtain ⟨h0, h1, h2, h3, h4, h5, h6, h7⟩ := hagree c
    refine (Cert.StateRefIdeal.Read.val_main_v30_eq _ _ _ _ _).trans ?_
    exact (Cert.Hand.StateFinal.value m c (Cert.Hand.StatePre.steps _ _ _ _ _ _ _ _ (hpre c).1)
      (Cert.Hand.StatePre.rates _ _ _ _ _ _ _ _ (hpre c).2)).symm

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts,
  Cert.FfnSample.Gen.facts, Cert.FfnSampleIdeal.Gen.facts, Cert.FfnSampleRefIdeal.Gen.facts,
  Cert.State.Gen.facts, Cert.StateIdeal.Gen.facts, Cert.StateRefIdeal.Gen.facts,
  Cert.Hand.AttnPre.facts, Cert.Hand.StatePre.facts,
  fun m g _ => Cert.Attn.Gen.frame m g, fun m g _ => Cert.AttnIdeal.Gen.frame m g, fun m g _ => Cert.AttnIdeal.Gen.frame m g,
  fun m g _ => (θ_run _ _ _).mono (fun r h => ⟨fun c => (h c).2, sem_eq_zero_of_no_sems (by decide) r.2⟩)
    (Cert.AttnRefIdeal.Value.run m g),
  fun m g _ => (θ_run _ _ _).mono (fun r h => ⟨fun c => (h c).2, sem_eq_zero_of_no_sems (by decide) r.2⟩)
    (Cert.AttnRefIdeal.Value.run m g),
  fun m g _ => Cert.Ffn.Gen.frame m g, fun m g _ => Cert.FfnIdeal.Gen.frame m g, fun m g _ => (θ_run _ _ _).mono (fun r h => ⟨fun c => (h c).2, sem_eq_zero_of_no_sems (by decide) r.2⟩)
    (Cert.FfnRefIdeal.Value.run m g),
  fun m g _ => Cert.FfnSample.Gen.frame m g, fun m g _ => Cert.FfnSampleIdeal.Gen.frame m g, fun m g _ => (θ_run _ _ _).mono (fun r h => ⟨fun c => (h c).2, sem_eq_zero_of_no_sems (by decide) r.2⟩)
    (Cert.FfnSampleRefIdeal.Value.run m g),
  fun m g _ => Cert.State.Gen.frame m g, fun m g _ => Cert.StateIdeal.Gen.frame m g, fun m g _ => Cert.StateIdeal.Gen.frame m g,
  fun m g _ => (θ_run _ _ _).mono (fun r h => ⟨fun c => (h c).2, sem_eq_zero_of_no_sems (by decide) r.2⟩)
    (Cert.StateRefIdeal.Value.run m g),
  fun m g _ => (θ_run _ _ _).mono (fun r h => ⟨fun c => (h c).2, sem_eq_zero_of_no_sems (by decide) r.2⟩)
    (Cert.StateRefIdeal.Value.run m g),
  trivial, attn_value, trivial, ffn_value, trivial, sample_value, trivial, state_value⟩

end Cert.Proof

end
